-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_is_encoding [hPre_is_encoding : Cert.Pre_is_encoding.Facts] (m : (ℓ : Loc Cert.KernelIdeal.nD Cert.KernelIdeal.τ Cert.KernelIdeal.sig) → Buf (Elt Ideal) ℓ) : Prop :=
  ∀ c : Dev Cert.KernelIdeal.nD,
    (Cert.Pre_is_encoding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_encoding [hPre_is_encoding : Cert.Pre_is_encoding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_encoding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_TableIdeal (m : (ℓ : Loc Cert.TableIdeal.nD Cert.TableIdeal.τ Cert.TableIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_encoding [hKernelIdeal : Cert.KernelIdeal.Facts] [hPre_is_encoding : Cert.Pre_is_encoding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_encoding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_encoding [hReferenceIdeal : Cert.ReferenceIdeal.Facts] [hPre_is_encoding : Cert.Pre_is_encoding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_encoding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0)
      ∧ r.2.mem ((c.tc : Thread Cert.TableIdeal.nD Cert.TableIdeal.τ).loc Cert.TableIdeal.main_arg1) = m ((c.tc : Thread Cert.TableIdeal.nD Cert.TableIdeal.τ).loc Cert.TableIdeal.main_arg1))
      ∧ r.2.sem = fun _ => 0)

def preserves_Kernel_KernelIdeal : Prop :=
  IdealRules.named_const.Statement Cert.KernelIdeal.κ "neg_rate" .f32 0xBC935D8E#32 (((-1 / 512) * (Real.log 10000) : ℝ) : EReal)
  ∧ IdealRules.named_const.Statement Cert.KernelIdeal.κ "half_pi" .f32 0x3FC90FDB#32 (((1 / 2) * Real.pi : ℝ) : EReal)

def algebraic_KernelIdeal_TableIdeal [hKernelIdeal : Cert.KernelIdeal.Facts] [hTableIdeal : Cert.TableIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.TableIdeal.nD Cert.TableIdeal.τ Cert.TableIdeal.sig) → Buf (Elt Ideal) ℓ) (g' : Dev Cert.TableIdeal.nD → PrngReg), Pre_KernelIdeal m →
    (∀ c : Dev Cert.KernelIdeal.nD,
      m' ((c.tc : Thread Cert.TableIdeal.nD Cert.TableIdeal.τ).loc Cert.TableIdeal.main_arg0) = m ((c.tc : Thread Cert.KernelIdeal.nD Cert.KernelIdeal.τ).loc Cert.KernelIdeal.main_arg0)
      ∧ m' ((c.tc : Thread Cert.TableIdeal.nD Cert.TableIdeal.τ).loc Cert.TableIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.TableIdeal.defs (F := Ideal)) (onTc (τ := Cert.TableIdeal.τ) (Cert.TableIdeal.main (F := Ideal))) ⟨m', fun _ => 0, g'⟩ (fun r => ∀ c : Dev Cert.TableIdeal.nD,
          r.2.mem ((c.tc : Thread Cert.TableIdeal.nD Cert.TableIdeal.τ).loc Cert.TableIdeal.main_v21) = v0 c
          ∧ r.2.mem ((c.tc : Thread Cert.TableIdeal.nD Cert.TableIdeal.τ).loc Cert.TableIdeal.main_arg0) = m' ((c.tc : Thread Cert.TableIdeal.nD Cert.TableIdeal.τ).loc Cert.TableIdeal.main_arg0)
          ∧ r.2.mem ((c.tc : Thread Cert.TableIdeal.nD Cert.TableIdeal.τ).loc Cert.TableIdeal.main_arg1) = m' ((c.tc : Thread Cert.TableIdeal.nD Cert.TableIdeal.τ).loc Cert.TableIdeal.main_arg1))

def algebraic_KernelIdeal_ReferenceIdeal_pre_is_encoding [hKernelIdeal : Cert.KernelIdeal.Facts] [hReferenceIdeal : Cert.ReferenceIdeal.Facts] [hPre_is_encoding : Cert.Pre_is_encoding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_encoding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hTableIdeal : Cert.TableIdeal.Facts) (hPre_is_encoding : Cert.Pre_is_encoding.Facts),
    quiescent_Kernel (hKernel := hKernel)
    ∧ quiescent_KernelIdeal (hKernelIdeal := hKernelIdeal)
    ∧ quiescent_KernelIdeal_pre_is_encoding (hKernelIdeal := hKernelIdeal) (hPre_is_encoding := hPre_is_encoding)
    ∧ quiescent_ReferenceIdeal (hReferenceIdeal := hReferenceIdeal)
    ∧ quiescent_ReferenceIdeal_pre_is_encoding (hReferenceIdeal := hReferenceIdeal) (hPre_is_encoding := hPre_is_encoding)
    ∧ quiescent_TableIdeal (hTableIdeal := hTableIdeal)
    ∧ preserves_Kernel_KernelIdeal
    ∧ algebraic_KernelIdeal_TableIdeal (hKernelIdeal := hKernelIdeal) (hTableIdeal := hTableIdeal)
    ∧ algebraic_KernelIdeal_ReferenceIdeal_pre_is_encoding (hKernelIdeal := hKernelIdeal) (hReferenceIdeal := hReferenceIdeal) (hPre_is_encoding := hPre_is_encoding)
-- ==== Pre_is_encoding.lean ====
abbrev S2x4096 : Shape := ⟨2, ![2, 4096]⟩
abbrev S8192x1024 : Shape := ⟨2, ![8192, 1024]⟩
abbrev S8192 : Shape := ⟨1, ![8192]⟩
abbrev S8192x1 : Shape := ⟨2, ![8192, 1]⟩
abbrev S512 : Shape := ⟨1, ![512]⟩
abbrev S_ : Shape := ⟨0, ![]⟩
abbrev S1x512 : Shape := ⟨2, ![1, 512]⟩
abbrev S8192x512 : Shape := ⟨2, ![8192, 512]⟩
abbrev S8192x512x1 : Shape := ⟨3, ![8192, 512, 1]⟩
abbrev S8192x512x2 : Shape := ⟨3, ![8192, 512, 2]⟩

class Facts : Prop where
  bcast_S8192_S8192x1_0 : S8192.BroadcastsInDim S8192x1 (![0] : Fin 1 → Fin S8192x1.rank)
  bcast_S_S512 : S_.BroadcastsInDim S512 (![] : Fin 0 → Fin S512.rank)
  bcast_S512_S1x512_1 : S512.BroadcastsInDim S1x512 (![1] : Fin 1 → Fin S1x512.rank)
  bcast_S8192x1_S8192x512_0_1 : S8192x1.BroadcastsInDim S8192x512 (![0, 1] : Fin 2 → Fin S8192x512.rank)
  bcast_S1x512_S8192x512_0_1 : S1x512.BroadcastsInDim S8192x512 (![0, 1] : Fin 2 → Fin S8192x512.rank)
  bcast_S8192x512_S8192x512x1_0_1 : S8192x512.BroadcastsInDim S8192x512x1 (![0, 1] : Fin 2 → Fin S8192x512x1.rank)
  concatenates_S8192x512x1_S8192x512x1_S8192x512x2_d2 : Shape.Concatenates [S8192x512x1, S8192x512x1] S8192x512x2 2
  shapeCasts_S8192x512x2_S8192x1024 : S8192x512x2.ShapeCasts S8192x1024

variable [Facts]

def fn_part1 {F : FTy → Type} [FloatOps F] (main_arg1 : FVec F S8192x1024 .f32) (main_v19 : FVec F S8192x512x2 .f32) : IVec S8192x1024 1 :=
  let main_v20 : FVec F S8192x1024 .f32 := shapeCast S8192x1024 main_v19 shapeCasts_S8192x512x2_S8192x1024
  let main_v21 : IVec S8192x1024 1 := cmpf .oeq main_arg1 main_v20
  main_v21

def fn {F : FTy → Type} [FloatOps F] (main_arg0 : IVec S2x4096 32) (main_arg1 : FVec F S8192x1024 .f32) : IVec S8192x1024 1 :=
  let main_v0 : FVec F S8192 .f32 := sitofp .f32 (iotaInDim S8192 32 0)
  let main_v1 : FVec F S8192x1 .f32 := broadcastInDim S8192x1 ![0] bcast_S8192_S8192x1_0 main_v0
  let main_v2 : FVec F S512 .f32 := sitofp .f32 (iotaInDim S512 32 0)
  let main_cst : FVec F S_ .f32 := constant S_ .f32 0x40000000#32
  let main_v3 : FVec F S512 .f32 := broadcastInDim S512 ![] bcast_S_S512 main_cst
  let main_v4 : FVec F S512 .f32 := mulf main_v3 main_v2
  let main_cst_0 : FVec F S_ .f32 := constant S_ .f32 0x00000000#32
  let main_v5 : FVec F S512 .f32 := broadcastInDim S512 ![] bcast_S_S512 main_cst_0
  let main_v6 : FVec F S512 .f32 := addf main_v5 main_v4
  let main_cst_1 : FVec F S_ .f32 := constant S_ .f32 0x44800000#32
  let main_v7 : FVec F S512 .f32 := broadcastInDim S512 ![] bcast_S_S512 main_cst_1
  let main_v8 : FVec F S512 .f32 := Host.divf main_v6 main_v7
  let main_cst_2 : FVec F S_ .f32 := constant S_ .f32 0x461C4000#32
  let main_v9 : FVec F S512 .f32 := broadcastInDim S512 ![] bcast_S_S512 main_cst_2
  let main_v10 : FVec F S512 .f32 := Host.powf main_v9 main_v8
  let main_v11 : FVec F S1x512 .f32 := broadcastInDim S1x512 ![1] bcast_S512_S1x512_1 main_v10
  let main_v12 : FVec F S8192x512 .f32 := broadcastInDim S8192x512 ![0, 1] bcast_S8192x1_S8192x512_0_1 main_v1
  let main_v13 : FVec F S8192x512 .f32 := broadcastInDim S8192x512 ![0, 1] bcast_S1x512_S8192x512_0_1 main_v11
  let main_v14 : FVec F S8192x512 .f32 := Host.divf main_v12 main_v13
  let main_v15 : FVec F S8192x512 .f32 := Host.sin main_v14
  let main_v16 : FVec F S8192x512 .f32 := Host.cos main_v14
  let main_v17 : FVec F S8192x512x1 .f32 := broadcastInDim S8192x512x1 ![0, 1] bcast_S8192x512_S8192x512x1_0_1 main_v15
  let main_v18 : FVec F S8192x512x1 .f32 := broadcastInDim S8192x512x1 ![0, 1] bcast_S8192x512_S8192x512x1_0_1 main_v16
  let main_v19 : FVec F S8192x512x2 .f32 := (fun a b => concatenate S8192x512x2 2 [⟨S8192x512x1, a⟩, ⟨S8192x512x1, b⟩] concatenates_S8192x512x1_S8192x512x1_S8192x512x2_d2) main_v17 main_v18
  fn_part1 (F := F) main_arg1 main_v19
-- ==== Kernel.lean ====
abbrev S2x4096 : Shape := ⟨2, ![2, 4096]⟩
abbrev S8192x1024 : Shape := ⟨2, ![8192, 1024]⟩
abbrev S4096x1024 : Shape := ⟨2, ![4096, 1024]⟩
abbrev S2x1024x1024 : Shape := ⟨3, ![2, 1024, 1024]⟩
abbrev S5x4 : Shape := ⟨2, ![5, 4]⟩
abbrev S1x1024 : Shape := ⟨2, ![1, 1024]⟩
abbrev S8x1024 : Shape := ⟨2, ![8, 1024]⟩
abbrev S16x1024 : Shape := ⟨2, ![16, 1024]⟩
abbrev S1x16x1024 : Shape := ⟨3, ![1, 16, 1024]⟩
abbrev S1x8x1024 : Shape := ⟨3, ![1, 8, 1024]⟩
abbrev S1x32x1024 : Shape := ⟨3, ![1, 32, 1024]⟩
abbrev S32x1024 : Shape := ⟨2, ![32, 1024]⟩
abbrev S1x64x1024 : Shape := ⟨3, ![1, 64, 1024]⟩
abbrev S64x1024 : Shape := ⟨2, ![64, 1024]⟩
abbrev S1x128x1024 : Shape := ⟨3, ![1, 128, 1024]⟩
abbrev S128x1024 : Shape := ⟨2, ![128, 1024]⟩
abbrev S1x1 : Shape := ⟨2, ![1, 1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 3
  | .vmem => 1
  | .smem => 0
  | _ => 0

abbrev bufTy : (tb : Table) → Fin (tcTables nBuf tb) → BufTy
  | .hbm, ⟨0, _⟩ => ⟨S2x4096, .i32⟩
  | .hbm, ⟨1, _⟩ => ⟨S8192x1024, .f32⟩
  | .hbm, ⟨2, _⟩ => ⟨S4096x1024, .f32⟩
  | .local _ .vmem, ⟨0, _⟩ => ⟨S2x1024x1024, .f32⟩
  | _, _ => ⟨S2x4096, .i32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none
-- ==== KernelIdeal.lean ====
variable {F : FTy → Type} [FloatOps F] [Named F]
def κ : String → Option EReal := fun
  | "half_pi" => some (((1 / 2) * Real.pi : ℝ) : EReal)
  | "neg_rate" => some (((-1 / 512) * (Real.log 10000) : ℝ) : EReal)
  | _ => none
-- ==== ReferenceIdeal.lean ====
abbrev S2x4096 : Shape := ⟨2, ![2, 4096]⟩
abbrev S8192x1024 : Shape := ⟨2, ![8192, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x4096, .i32⟩
  | .hbm, ⟨1, _⟩ => ⟨S8192x1024, .f32⟩
  | .hbm, ⟨2, _⟩ => ⟨S4096x1024, .f32⟩
  | _, _ => ⟨S2x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== TableIdeal.lean ====
abbrev S2x4096 : Shape := ⟨2, ![2, 4096]⟩
abbrev S8192x1024 : Shape := ⟨2, ![8192, 1024]⟩
abbrev S8192 : Shape := ⟨1, ![8192]⟩
abbrev S8192x1 : Shape := ⟨2, ![8192, 1]⟩
abbrev S512 : Shape := ⟨1, ![512]⟩
abbrev S_ : Shape := ⟨0, ![]⟩
abbrev S1x512 : Shape := ⟨2, ![1, 512]⟩
abbrev S8192x512 : Shape := ⟨2, ![8192, 512]⟩
abbrev S8192x512x1 : Shape := ⟨3, ![8192, 512, 1]⟩
abbrev S8192x512x2 : Shape := ⟨3, ![8192, 512, 2]⟩
abbrev S4096x1024 : Shape := ⟨2, ![4096, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2x4096, .i32⟩
  | .hbm, ⟨1, _⟩ => ⟨S8192x1024, .f32⟩
  | .hbm, ⟨2, _⟩ => ⟨S8192, .f32⟩
  | .hbm, ⟨3, _⟩ => ⟨S8192x1, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512x1, .f32⟩
  | .hbm, ⟨24, _⟩ => ⟨S8192x512x1, .f32⟩
  | .hbm, ⟨25, _⟩ => ⟨S8192x512x2, .f32⟩
  | .hbm, ⟨26, _⟩ => ⟨S8192x1024, .f32⟩
  | .hbm, ⟨27, _⟩ => ⟨S4096x1024, .f32⟩
  | _, _ => ⟨S2x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Proof.Program.lean ====
/-
  The kernel's body as a program with structure: the pieces it repeats — storing a seed of sixteen rows, doubling the
  rows present in a slot, issuing the four copies of a slot, waiting for them — as definitions over row numbers, and
  the whole body as their sequence. Nothing is proved here but the side conditions of the pieces.
-/
module

public import Idealize.ShloMosaic.Lib.Transfers
public import Idealize.ShloMosaic.Lib.ValueLayout

@[expose] public section

noncomputable section

namespace Cert.Recur

open Idealize.ShloMosaic Idealize.SL.Sem

/-- The buffer of two slots of 1024 rows. -/
abbrev SBuf : Shape := ⟨3, ![2, 1024, 1024]⟩
/-- The result's shape. -/
abbrev SOut : Shape := ⟨2, ![4096, 1024]⟩
/-- One row of coefficients. -/
abbrev SRow : Shape := ⟨2, ![1, 1024]⟩
/-- `K` rows. -/
abbrev SRows (K : ℕ) : Shape := ⟨2, ![K, 1024]⟩
/-- `K` rows of one slot. -/
abbrev SSlab (K : ℕ) : Shape := ⟨3, ![1, K, 1024]⟩
/-- The semaphores: four for each of five chunks. -/
abbrev SSem : Shape := ⟨2, ![5, 4]⟩

variable {nD : ℕ} {τ : Topo} {sig : RefSig} {Λ : Labels} {F : FTy → Type} [FloatOps F]

/-! ## The side conditions -/

/-- Rows `lo … lo + K` of a slot lie in the buffer. -/
theorem inbB {s lo K : ℕ} (hs : s < 2) (h : lo + K ≤ 1024) : ∀ a, (![s, lo, 0] : Fin 3 → ℕ) a + (SSlab K).size a ≤ SBuf.size a := by
  intro a; fin_cases a
  · show s + 1 ≤ 2; omega
  · exact h
  · show 0 + 1024 ≤ 1024; omega

/-- Rows `lo … lo + K` lie in the result. -/
theorem inbA {lo K : ℕ} (h : lo + K ≤ 4096) : ∀ a, (![lo, 0] : Fin 2 → ℕ) a + (SRows K).size a ≤ SOut.size a := by
  intro a; fin_cases a
  · exact h
  · show 0 + 1024 ≤ 1024; omega

/-- The semaphore of a chunk and a quarter lies in the array of semaphores. -/
theorem inbS {c t : ℕ} (hc : c < 5) (ht : t < 4) : ∀ a, (![c, t] : Fin 2 → ℕ) a + (⟨2, ![1, 1]⟩ : Shape).size a ≤ SSem.size a := by
  intro a; fin_cases a
  · show c + 1 ≤ 5; omega
  · show t + 1 ≤ 4; omega

/-- The number of elements of `K` rows of a slot. -/
theorem numel_slab (K : ℕ) : (SSlab K).numel = K * 1024 := by
  simp [Shape.numel, Fin.prod_univ_succ]

/-- The number of elements of `K` rows. -/
theorem numel_rows (K : ℕ) : (SRows K).numel = K * 1024 := by
  simp [Shape.numel, Fin.prod_univ_succ]

/-- `K` rows of a slot have as many elements as `K` rows. -/
theorem casts_down (K : ℕ) : (SSlab K).ShapeCasts (SRows K) := (numel_rows K).trans (numel_slab K).symm
/-- `K` rows have as many elements as `K` rows of a slot. -/
theorem casts_up (K : ℕ) : (SRows K).ShapeCasts (SSlab K) := (numel_slab K).trans (numel_rows K).symm

/-- A block of rows of a slot is not empty. -/
theorem pos_slab {K : ℕ} (h : 0 < K) : 0 < (SSlab K).numel := by rw [numel_slab]; omega
/-- A block of rows is not empty. -/
theorem pos_rows {K : ℕ} (h : 0 < K) : 0 < (SRows K).numel := by rw [numel_rows]; omega

/-- One row of coefficients can be repeated in `K` rows. -/
theorem bcasts (K : ℕ) : SRow.Broadcasts (SRows K) := by
  refine ⟨le_refl _, fun a => ?_⟩
  fin_cases a
  · exact .inl rfl
  · exact .inr fun _ => rfl

/-- The leading axis of rows of a slot has extent one. -/
theorem squeezes_slab (K : ℕ) : (SSlab K).Squeezes (SRows K) := by
  show Shape.dropsOnes (List.ofFn (![1, K, 1024] : Fin 3 → ℕ)).reverse (List.ofFn (![K, 1024] : Fin 2 → ℕ)).reverse = true
  simp [List.ofFn_succ, Shape.dropsOnes]

/-- A single semaphore has axes of extent one only. -/
theorem squeezes_cell : (⟨2, ![1, 1]⟩ : Shape).Squeezes ⟨0, ![]⟩ := by decide

/-! ## The pieces -/

/-- Rows `lo … lo + K` of slot `s`. -/
def rowR (s lo K : ℕ) (hs : s < 2) (h : lo + K ≤ 1024) : Rect SBuf := Rect.unit (s := SBuf) ![s, lo, 0] (SSlab K).size (inbB hs h)
/-- Rows `lo … lo + K` of the result. -/
def outR (lo K : ℕ) (h : lo + K ≤ 4096) : Rect SOut := Rect.unit (s := SOut) ![lo, 0] (SRows K).size (inbA h)

section Pieces
variable (A : Memref sig .tc .hbm SOut .f32) (B : Memref sig .tc .vmem SBuf .f32) (S : DmaSems sig SSem)

/-- Loading `K` rows of slot `s` from row `lo`. -/
def loadRows (s lo K : ℕ) (hs : s < 2) (h : lo + K ≤ 1024) (hK : 0 < K) :
    Prog (TpuEff nD τ sig (Elt F) Λ .tc) ((SSlab K).Idx → Elt F .f32) :=
  Prog.lift (.load B (rowR s lo K hs h).toLoadRect (View.loadsAt_vmem (pos_slab hK)))

/-- Storing `K` rows of slot `s` from row `lo`. -/
def storeRows (s lo K : ℕ) (hs : s < 2) (h : lo + K ≤ 1024) (hK : 0 < K) (w : (SSlab K).Idx → Elt F .f32) :
    Prog (TpuEff nD τ sig (Elt F) Λ .tc) PUnit :=
  Prog.lift (.store B (rowR s lo K hs h) w Finset.univ (View.stores_vmem_bits_univ (pos_slab hK) rfl) (.inl rfl))

/-- `c · y − x`, row by row: `c` one row of coefficients, `x` and `y` `K` rows. -/
def step (K : ℕ) (c : FVec F SRow .f32) (y x : FVec F (SRows K) .f32) : FVec F (SRows K) .f32 :=
  subf (mulf (broadcastTo (SRows K) c (bcasts K)) y) x

/-- A slot's rows without the slot's axis. -/
abbrev down (K : ℕ) (x : (SSlab K).Idx → Elt F .f32) : FVec F (SRows K) .f32 := shapeCast (SRows K) x (casts_down K)
/-- Rows with the slot's axis. -/
abbrev up (K : ℕ) (x : FVec F (SRows K) .f32) : (SSlab K).Idx → Elt F .f32 := shapeCast (SSlab K) x (casts_up K)

/-- Doubling: from rows `0 … 2d` of slot `s`, rows `2d … 4d`. -/
def dbl (s d : ℕ) (hs : s < 2) (h : 4 * d ≤ 1024) (hd : 0 < d) (c : FVec F SRow .f32) : Prog (TpuEff nD τ sig (Elt F) Λ .tc) PUnit := do
  let x ← loadRows B s 0 d hs (by omega) hd
  let y ← loadRows B s d d hs (by omega) hd
  let _ ← loadRows B s (2 * d) d hs (by omega) hd
  storeRows B s (2 * d) d hs (by omega) hd (up d (step d c (down d y) (down d x)))
  let _ ← loadRows B s (3 * d) d hs (by omega) hd
  storeRows B s (3 * d) d hs (by omega) hd (up d (step d c (step d c (down d y) (down d x)) (down d y)))

/-- Storing the sixteen rows a slot starts from. -/
def seed (s : ℕ) (hs : s < 2) (w : (SSlab 16).Idx → Elt F .f32) : Prog (TpuEff nD τ sig (Elt F) Λ .tc) PUnit := do
  let _ ← loadRows B s 0 16 hs (by omega) (by omega)
  storeRows B s 0 16 hs (by omega) (by omega) w

/-- The next slot's sixteen rows: `c` times rows `h … h + 16` of slot `s` less its rows `0 … 16`. -/
def next (s h : ℕ) (hs : s < 2) (hh : h + 16 ≤ 1024) (c : FVec F SRow .f32) :
    Prog (TpuEff nD τ sig (Elt F) Λ .tc) ((SSlab 16).Idx → Elt F .f32) := do
  let y ← loadRows B s h 16 hs hh (by omega)
  let x ← loadRows B s 0 16 hs (by omega) (by omega)
  pure (up 16 (step 16 c (down 16 y) (down 16 x)))

/-- `K` rows of slot `s` from row `lo`, as a copy's source. -/
def srcM (s lo K : ℕ) (hs : s < 2) (h : lo + K ≤ 1024) : Memref sig .tc .vmem (SRows K) .f32 :=
  (B.slice (Rect.unit (s := SBuf) ![s, lo, 0] (SSlab K).size (inbB hs h)) (fun _ => rfl)).squeeze (SRows K) (squeezes_slab K)
/-- `K` rows of the result from row `lo`, as a copy's destination. -/
def dstM (lo K : ℕ) (h : lo + K ≤ 4096) : Memref sig .tc .hbm (SRows K) .f32 :=
  A.slice (Rect.unit (s := SOut) ![lo, 0] (SRows K).size (inbA h)) (fun _ => rfl)
/-- Chunk `c`'s `t`-th semaphore. -/
def cell (c t : ℕ) (hc : c < 5) (ht : t < 4) : DmaSem sig :=
  ((S.slice (Rect.unit (s := SSem) ![c, t] (⟨2, ![1, 1]⟩ : Shape).size (inbS hc ht))).squeeze ⟨0, ![]⟩ squeezes_cell).sem

/-- Issuing the copy of `K` rows of slot `s` from row `lo` to the result's rows from `o`. -/
def copy (s lo o K c t : ℕ) (hs : s < 2) (h : lo + K ≤ 1024) (ho : o + K ≤ 4096) (hc : c < 5) (ht : t < 4) :
    Prog (TpuEff nD τ sig (Elt F) Λ .tc) PUnit :=
  Prog.lift (.enqueueDma (srcM B s lo K hs h) (.here (dstM A o K ho)) (.dma (cell S c t hc ht))
    ((View.wordExact_bits rfl).reshape _ _) (View.wordExact_bits rfl) ⟨Or.inl rfl, trivial⟩)

/-- Waiting for it. -/
def wait (s lo o K c t : ℕ) (hs : s < 2) (h : lo + K ≤ 1024) (ho : o + K ≤ 4096) (hc : c < 5) (ht : t < 4) :
    Prog (TpuEff nD τ sig (Elt F) Λ .tc) PUnit :=
  Prog.lift (.waitDma2 (cell S c t hc ht) (srcM B s lo K hs h) (dstM A o K ho)
    ((View.wordExact_bits rfl).reshape _ _) (View.wordExact_bits rfl))

/-- Issuing chunk `c`'s four copies, of `K` rows each. -/
def copies (s o K c : ℕ) (hs : s < 2) (h : 4 * K ≤ 1024) (ho : o + 4 * K ≤ 4096) (hc : c < 5) :
    Prog (TpuEff nD τ sig (Elt F) Λ .tc) PUnit := do
  copy A B S s 0 o K c 0 hs (by omega) (by omega) hc (by omega)
  copy A B S s K (o + K) K c 1 hs (by omega) (by omega) hc (by omega)
  copy A B S s (2 * K) (o + 2 * K) K c 2 hs (by omega) (by omega) hc (by omega)
  copy A B S s (3 * K) (o + 3 * K) K c 3 hs (by omega) (by omega) hc (by omega)

/-- Waiting for them. -/
def waits (s o K c : ℕ) (hs : s < 2) (h : 4 * K ≤ 1024) (ho : o + 4 * K ≤ 4096) (hc : c < 5) :
    Prog (TpuEff nD τ sig (Elt F) Λ .tc) PUnit := do
  wait A B S s 0 o K c 0 hs (by omega) (by omega) hc (by omega)
  wait A B S s K (o + K) K c 1 hs (by omega) (by omega) hc (by omega)
  wait A B S s (2 * K) (o + 2 * K) K c 2 hs (by omega) (by omega) hc (by omega)
  wait A B S s (3 * K) (o + 3 * K) K c 3 hs (by omega) (by omega) hc (by omega)

/-- From sixteen rows of slot `s`, 512: five doublings, at coefficients `c 0 … c 4`. -/
def fill (s : ℕ) (hs : s < 2) (c : ℕ → FVec F SRow .f32) : Prog (TpuEff nD τ sig (Elt F) Λ .tc) PUnit := do
  dbl B s 8 hs (by omega) (by omega) (c 0)
  dbl B s 16 hs (by omega) (by omega) (c 1)
  dbl B s 32 hs (by omega) (by omega) (c 2)
  dbl B s 64 hs (by omega) (by omega) (c 3)
  dbl B s 128 hs (by omega) (by omega) (c 4)

/-- From sixteen rows of slot `s`, all 1024. -/
def fillAll (s : ℕ) (hs : s < 2) (c : ℕ → FVec F SRow .f32) : Prog (TpuEff nD τ sig (Elt F) Λ .tc) PUnit := do
  fill B s hs c
  dbl B s 256 hs (by omega) (by omega) (c 5)

/-- The body: five chunks, of 512, 1024, 1024, 1024 and 512 rows, alternating between the slots, each chunk's copies
    in flight while the next chunk is computed. -/
def body (w : (SSlab 16).Idx → Elt F .f32) (c : ℕ → FVec F SRow .f32) : Prog (TpuEff nD τ sig (Elt F) Λ .tc) PUnit := do
  seed B 0 (by omega) w
  fill B 0 (by omega) c
  copies A B S 0 0 128 0 (by omega) (by omega) (by omega) (by omega)
  let w1 ← next B 0 256 (by omega) (by omega) (c 5)
  seed B 1 (by omega) w1
  fillAll B 1 (by omega) c
  copies A B S 1 512 256 1 (by omega) (by omega) (by omega) (by omega)
  let w2 ← next B 1 512 (by omega) (by omega) (c 6)
  waits A B S 0 0 128 0 (by omega) (by omega) (by omega) (by omega)
  seed B 0 (by omega) w2
  fillAll B 0 (by omega) c
  copies A B S 0 1536 256 2 (by omega) (by omega) (by omega) (by omega)
  let w3 ← next B 0 512 (by omega) (by omega) (c 6)
  waits A B S 1 512 256 1 (by omega) (by omega) (by omega) (by omega)
  seed B 1 (by omega) w3
  fillAll B 1 (by omega) c
  copies A B S 1 2560 256 3 (by omega) (by omega) (by omega) (by omega)
  let w4 ← next B 1 512 (by omega) (by omega) (c 6)
  waits A B S 0 1536 256 2 (by omega) (by omega) (by omega) (by omega)
  seed B 0 (by omega) w4
  fill B 0 (by omega) c
  copies A B S 0 3584 128 4 (by omega) (by omega) (by omega) (by omega)
  waits A B S 1 2560 256 3 (by omega) (by omega) (by omega) (by omega)
  waits A B S 0 3584 128 4 (by omega) (by omega) (by omega) (by omega)

end Pieces

end Cert.Recur
-- ==== Proof.Rows.lean ====
/-
  What the pieces of the kernel's body do to the contents of a slot and of the result, as facts about rows: which
  elements a block of rows is, what a block reads, and what stands in the slot after a block is stored or in the result
  after a block is copied. `G p j v` is any predicate saying that `v` is acceptable at row `p`, column `j`.
-/
module

public import proofs.«01_k».proof.Proof.Program

@[expose] public section

noncomputable section

namespace Cert.Recur

open Idealize.ShloMosaic Idealize.SL.Sem Idealize.ShloMosaic.ValueIdx

variable {sig : RefSig} {F : FTy → Type} [FloatOps F]

/-! ## Blocks of rows as sets of indices -/

/-- Rows `lo … hi` of slot `s`. -/
def rows (s lo hi : ℕ) : Finset SBuf.Idx := Finset.univ.filter fun x => (x 0).val = s ∧ lo ≤ (x 1).val ∧ (x 1).val < hi
/-- Rows `lo … hi` of the result. -/
def orows (lo hi : ℕ) : Finset SOut.Idx := Finset.univ.filter fun x => lo ≤ (x 0).val ∧ (x 0).val < hi

/-- An index lies in rows `lo … hi` of slot `s` when its coordinates say so. -/
theorem mem_rows {s lo hi : ℕ} {x : SBuf.Idx} : x ∈ rows s lo hi ↔ (x 0).val = s ∧ lo ≤ (x 1).val ∧ (x 1).val < hi := by
  simp [rows]
/-- An index lies in rows `lo … hi` of the result when its row says so. -/
theorem mem_orows {lo hi : ℕ} {x : SOut.Idx} : x ∈ orows lo hi ↔ lo ≤ (x 0).val ∧ (x 0).val < hi := by
  simp [orows]

/-- Fewer rows are among more rows. -/
theorem rows_subset {s lo hi lo' hi' : ℕ} (h : lo' ≤ lo) (h' : hi ≤ hi') : rows s lo hi ⊆ rows s lo' hi' := fun x hx => by
  rw [mem_rows] at hx ⊢; omega
/-- Two adjacent blocks of rows make up one. -/
theorem rows_union {s lo mid hi : ℕ} (h : lo ≤ mid) (h' : mid ≤ hi) : rows s lo mid ∪ rows s mid hi = rows s lo hi := by
  ext x; rw [Finset.mem_union, mem_rows, mem_rows, mem_rows]; omega
/-- Two adjacent blocks of rows share no index. -/
theorem rows_disjoint {s lo mid hi : ℕ} : Disjoint (rows s lo mid) (rows s mid hi) := Finset.disjoint_left.mpr fun x h h' => by
  rw [mem_rows] at h h'; omega
/-- The two slots make up the buffer. -/
theorem slots_union : rows 0 0 1024 ∪ rows 1 0 1024 = Finset.univ := by
  ext x
  have h0 : (x 0).val < 2 := (x 0).isLt
  have h1 : (x 1).val < 1024 := (x 1).isLt
  rw [Finset.mem_union, mem_rows, mem_rows]; simp only [Finset.mem_univ, iff_true]; omega
/-- The two slots share no index. -/
theorem slots_disjoint : Disjoint (rows 0 0 1024) (rows 1 0 1024) := Finset.disjoint_left.mpr fun x h h' => by
  rw [mem_rows] at h h'; omega

/-- Two adjacent blocks of rows of the result make up one. -/
theorem orows_union {lo mid hi : ℕ} (h : lo ≤ mid) (h' : mid ≤ hi) : orows lo mid ∪ orows mid hi = orows lo hi := by
  ext x; rw [Finset.mem_union, mem_orows, mem_orows, mem_orows]; omega
/-- Two adjacent blocks of rows of the result share no index. -/
theorem orows_disjoint {lo mid hi : ℕ} : Disjoint (orows lo mid) (orows mid hi) := Finset.disjoint_left.mpr fun x h h' => by
  rw [mem_orows] at h h'; omega
/-- All rows of the result are the result. -/
theorem orows_univ : orows 0 4096 = Finset.univ := by
  ext x
  have h0 : (x 0).val < 4096 := (x 0).isLt
  rw [mem_orows]; simp only [Finset.mem_univ, iff_true]; omega

/-! ## Where a block's elements are -/

/-- The slot of an index of the block. -/
theorem rowR_emb0 {s lo K : ℕ} (hs : s < 2) (h : lo + K ≤ 1024) (y : (rowR s lo K hs h).shape.Idx) : (((rowR s lo K hs h).emb y) 0).val = s := by
  have h0 : (y 0).val < 1 := (y 0).isLt
  show s + 1 * (y 0).val = s; omega
/-- The row of an index of the block. -/
theorem rowR_emb1 {s lo K : ℕ} (hs : s < 2) (h : lo + K ≤ 1024) (y : (rowR s lo K hs h).shape.Idx) : (((rowR s lo K hs h).emb y) 1).val = lo + (y 1).val := by
  show lo + 1 * (y 1).val = _; omega
/-- The column of an index of the block. -/
theorem rowR_emb2 {s lo K : ℕ} (hs : s < 2) (h : lo + K ≤ 1024) (y : (rowR s lo K hs h).shape.Idx) : ((rowR s lo K hs h).emb y) 2 = y 2 := by
  apply Fin.ext; show 0 + 1 * (y 2).val = _; omega
/-- The row of an index of a block of the result. -/
theorem outR_emb0 {lo K : ℕ} (h : lo + K ≤ 4096) (y : (outR lo K h).shape.Idx) : (((outR lo K h).emb y) 0).val = lo + (y 0).val := by
  show lo + 1 * (y 0).val = _; omega
/-- The column of an index of a block of the result. -/
theorem outR_emb1 {lo K : ℕ} (h : lo + K ≤ 4096) (y : (outR lo K h).shape.Idx) : ((outR lo K h).emb y) 1 = y 1 := by
  apply Fin.ext; show 0 + 1 * (y 1).val = _; omega

/-- The rows of a slot are the indices of the block. -/
theorem rowR_mem_iff {s lo K : ℕ} (hs : s < 2) (h : lo + K ≤ 1024) (x : SBuf.Idx) :
    x ∈ rows s lo (lo + K) ↔ ∃ y, (rowR s lo K hs h).emb y = x := by
  rw [mem_rows]
  constructor
  · rintro ⟨h0, h1, h2⟩
    refine ⟨ix3 (n0 := 1) (n1 := K) (n2 := 1024) 0 ⟨(x 1).val - lo, by omega⟩ (x 2), ?_⟩
    funext a; apply Fin.ext
    match a with
    | ⟨0, _⟩ => exact (rowR_emb0 hs h _).trans h0.symm
    | ⟨1, _⟩ => refine (rowR_emb1 hs h _).trans ?_; show lo + ((x 1).val - lo) = (x 1).val; omega
    | ⟨2, _⟩ => exact congrArg Fin.val (rowR_emb2 hs h _)
  · rintro ⟨y, rfl⟩
    have h1 : (y 1).val < K := (y 1).isLt
    rw [rowR_emb0, rowR_emb1]; omega

/-- The rows of the result are the indices of the block. -/
theorem outR_mem_iff {lo K : ℕ} (h : lo + K ≤ 4096) (x : SOut.Idx) : x ∈ orows lo (lo + K) ↔ ∃ y, (outR lo K h).emb y = x := by
  rw [mem_orows]
  constructor
  · rintro ⟨h1, h2⟩
    refine ⟨ix2 (n0 := K) (n1 := 1024) ⟨(x 0).val - lo, by omega⟩ (x 1), ?_⟩
    funext a; apply Fin.ext
    match a with
    | ⟨0, _⟩ => refine (outR_emb0 h _).trans ?_; show lo + ((x 0).val - lo) = (x 0).val; omega
    | ⟨1, _⟩ => exact congrArg Fin.val (outR_emb1 h _)
  · rintro ⟨y, rfl⟩
    have h1 : (y 0).val < K := (y 0).isLt
    rw [outR_emb0]; omega

/-- The block's image is its rows of the slot. -/
theorem rowR_map {s lo K : ℕ} (hs : s < 2) (h : lo + K ≤ 1024) : Finset.univ.map (rowR s lo K hs h).emb = rows s lo (lo + K) := by
  ext x; rw [rowR_mem_iff hs h, Finset.mem_map]; simp
/-- The block's image is its rows of the result. -/
theorem outR_map {lo K : ℕ} (h : lo + K ≤ 4096) : Finset.univ.map (outR lo K h).emb = orows lo (lo + K) := by
  ext x; rw [outR_mem_iff h, Finset.mem_map]; simp
/-- The set of the block is its rows of the slot. -/
theorem rowR_set {s lo K : ℕ} (hs : s < 2) (h : lo + K ≤ 1024) : (rowR s lo K hs h).set = rows s lo (lo + K) := by
  rw [← rowR_map hs h]; exact (Rect.map_emb_univ _).symm
/-- The set of the block is its rows of the result. -/
theorem outR_set {lo K : ℕ} (h : lo + K ≤ 4096) : (outR lo K h).set = orows lo (lo + K) := by
  rw [← outR_map h]; exact (Rect.map_emb_univ _).symm

/-- Acceptability does not depend on how the row, the column and the value are written. -/
theorem accept_of_eq {G : ℕ → Fin 1024 → F .f32 → Prop} {p p' : ℕ} {j j' : Fin 1024} {v v' : F .f32} (h : G p j v)
    (ep : p' = p) (ej : j' = j) (ev : v' = v) : G p' j' v' := by
  subst ep ej ev; exact h

/-! ## A block computed from two -/

/-- Rows written as rows of a slot, read at an index. -/
theorem up_apply {α : Type} {K : ℕ} (v : (SRows K).Idx → α) (z : (SSlab K).Idx) :
    shapeCast (SSlab K) v (casts_up K) z = v (ix2 (z 1) (z 2)) := by
  refine congrArg v (Shape.reshapeEquiv_eq_of_rowMajor _ ?_)
  have h0 : (z 0).val < 1 := (z 0).isLt
  rw [Shape.rowMajor_val_two, Shape.rowMajor_val_three]
  show (z 1).val * 1024 + (z 2).val = ((z 0).val * K + (z 1).val) * 1024 + (z 2).val
  have : (z 0).val = 0 := by omega
  rw [this, Nat.zero_mul, Nat.zero_add]

/-- Rows of a slot written as rows, read at an index. -/
theorem down_apply {α : Type} {K : ℕ} (v : (SSlab K).Idx → α) (i : (SRows K).Idx) :
    shapeCast (SRows K) v (casts_down K) i = v (ix3 (n0 := 1) 0 (i 0) (i 1)) := by
  refine congrArg v (Shape.reshapeEquiv_eq_of_rowMajor _ ?_)
  rw [Shape.rowMajor_val_two, Shape.rowMajor_val_three]
  show (0 * K + (i 0).val) * 1024 + (i 1).val = (i 0).val * 1024 + (i 1).val
  rw [Nat.zero_mul, Nat.zero_add]

/-- One row repeated reads that row everywhere. -/
theorem bcast_apply {α : Type} {K : ℕ} (c : SRow.Idx → α) (i : (SRows K).Idx) :
    broadcastTo (SRows K) c (bcasts K) i = c (ix2 (n0 := 1) 0 (i 1)) := by
  refine congrArg c (funext fun a => ?_)
  match a with
  | ⟨0, _⟩ => exact dif_pos rfl
  | ⟨1, _⟩ => exact dif_neg (show ¬(1024 : ℕ) = 1 by decide)

/-- The element of `c · y − x` at a row and a column. -/
theorem step_apply {K : ℕ} (c : FVec F SRow .f32) (y x : FVec F (SRows K) .f32) (i : (SRows K).Idx) :
    step K c y x i = FloatOps.subf (FloatOps.mulf (c (ix2 (n0 := 1) 0 (i 1))) (y i)) (x i) := by
  show FloatOps.subf (FloatOps.mulf (broadcastTo (SRows K) c (bcasts K) i) (y i)) (x i) = _
  rw [bcast_apply]

/-! ## Acceptable contents -/

/-- `G` is closed under the recurrence with step `d` and coefficients `c`: the value at row `p + 2d` may be `c` times
    the one at `p + d` less the one at `p`. -/
def Closed (G : ℕ → Fin 1024 → F .f32 → Prop) (d : ℕ) (c : FVec F SRow .f32) : Prop :=
  ∀ (p : ℕ) (j : Fin 1024) (a b : F .f32), G p j a → G (p + d) j b →
    G (p + 2 * d) j (FloatOps.subf (FloatOps.mulf (c (ix2 (n0 := 1) 0 j)) b) a)

/-- A block of `K` rows standing for the rows from `p` is acceptable. -/
def Rows (G : ℕ → Fin 1024 → F .f32 → Prop) (p K : ℕ) (v : (SSlab K).Idx → F .f32) : Prop :=
  ∀ z, G (p + (z 1).val) (z 2) (v z)

/-- The block computed by the recurrence from acceptable blocks is acceptable. -/
theorem Rows.step {G : ℕ → Fin 1024 → F .f32 → Prop} {d K : ℕ} {c : FVec F SRow .f32} (hC : Closed G d c) {p : ℕ}
    {x y : FVec F (SRows K) .f32} (hx : Rows G p K (up K x)) (hy : Rows G (p + d) K (up K y)) :
    Rows G (p + 2 * d) K (up K (Cert.Recur.step K c y x)) := fun z => by
  have h1 := hx z
  have h2 := hy z
  rw [up, up_apply] at h1 h2 ⊢
  rw [step_apply]
  have := hC (p + (z 1).val) (z 2) _ _ h1 (by rw [show p + (z 1).val + d = p + d + (z 1).val by omega]; exact h2)
  rw [show p + 2 * d + (z 1).val = p + (z 1).val + 2 * d by omega]; exact this

/-- Rows of a slot written as rows and back are as acceptable as before. -/
theorem Rows.up_down {G : ℕ → Fin 1024 → F .f32 → Prop} {K p : ℕ} {v : (SSlab K).Idx → F .f32} (h : Rows G p K v) :
    Rows G p K (up K (down K v)) := fun z => by
  have e : ix3 (n0 := 1) 0 (z 1) (z 2) = z := by
    have h0 : (z 0).val < 1 := (z 0).isLt
    funext a
    match a with
    | ⟨0, _⟩ => apply Fin.ext; show 0 = (z 0).val; omega
    | ⟨1, _⟩ => rfl
    | ⟨2, _⟩ => rfl
  refine accept_of_eq (h z) rfl rfl ?_
  rw [up, up_apply, down, down_apply]
  exact congrArg v e

section Contents
variable (A : Memref sig .tc .hbm SOut .f32) (B : Memref sig .tc .vmem SBuf .f32)

/-- The first `n` rows of slot `s` are acceptable, standing for the rows from `p`. -/
def Good (G : ℕ → Fin 1024 → F .f32 → Prop) (s p n : ℕ) (f : B.view.ty.Contents (Elt F)) : Prop :=
  ∀ x : SBuf.Idx, (x 0).val = s → (x 1).val < n → G (p + (x 1).val) (x 2) (B.view.read (Elt F) f x)
/-- Rows `lo … hi` of the result are acceptable. -/
def GoodOut (G : ℕ → Fin 1024 → F .f32 → Prop) (lo hi : ℕ) (f : A.view.ty.Contents (Elt F)) : Prop :=
  ∀ x : SOut.Idx, lo ≤ (x 0).val → (x 0).val < hi → G (x 0).val (x 1) (A.view.read (Elt F) f x)

/-- What a load of `K` rows of slot `s` from row `lo` reads. -/
def readRows (s lo K : ℕ) (hs : s < 2) (h : lo + K ≤ 1024) (f : B.view.ty.Contents (Elt F)) : (SSlab K).Idx → F .f32 :=
  B.view.readAt (Elt F) (rowR s lo K hs h).toLoadRect f
/-- The contents after a store of `K` rows of slot `s` from row `lo`. -/
def writeRows (s lo K : ℕ) (hs : s < 2) (h : lo + K ≤ 1024) (f : B.view.ty.Contents (Elt F)) (w : (SSlab K).Idx → F .f32) :
    B.view.ty.Contents (Elt F) :=
  (B.access (rowR s lo K hs h)).write (Elt F) f w Finset.univ

variable {A B} {G : ℕ → Fin 1024 → F .f32 → Prop}

/-- A block read from a slot's acceptable rows is acceptable. -/
theorem Good.read {s p n : ℕ} {f : B.view.ty.Contents (Elt F)} (h : Good B G s p n f) {lo K : ℕ} (hs : s < 2) (hK : lo + K ≤ 1024)
    (hn : lo + K ≤ n) : Rows G (p + lo) K (readRows B s lo K hs hK f) := fun z => by
  have hz : (z 1).val < K := (z 1).isLt
  exact accept_of_eq (h ((rowR s lo K hs hK).emb z) (rowR_emb0 hs hK z) (by rw [rowR_emb1 hs hK z]; omega))
    (by rw [rowR_emb1 hs hK z, Nat.add_assoc]) (rowR_emb2 hs hK z).symm rfl

/-- Storing an acceptable block after a slot's acceptable rows. -/
theorem Good.write {s p n : ℕ} {f : B.view.ty.Contents (Elt F)} (h : Good B G s p n f) {K m : ℕ} (hs : s < 2) (hK : n + K ≤ 1024) (hm : m = n + K)
    {w : (SSlab K).Idx → F .f32} (hw : Rows G (p + n) K w) :
    Good B G s p m (writeRows B s n K hs hK f w) := fun x h0 h1 => by
  subst hm
  by_cases hx : x ∈ rows s n (n + K)
  · obtain ⟨y, rfl⟩ := (rowR_mem_iff hs hK x).mp hx
    have e : B.view.read (Elt F) ((B.access (rowR s n K hs hK)).write (Elt F) f w Finset.univ) ((rowR s n K hs hK).emb y) = w y :=
      View.read_slice_write_emb (v := B.view) (rowR s n K hs hK) f w (Finset.mem_univ y)
    exact accept_of_eq (hw y) (by rw [rowR_emb1 hs hK y, Nat.add_assoc]) (rowR_emb2 hs hK y) e
  · have e : B.view.read (Elt F) ((B.access (rowR s n K hs hK)).write (Elt F) f w Finset.univ) x = B.view.read (Elt F) f x :=
      View.read_slice_write_of_not_mem (v := B.view) (rowR s n K hs hK) f w Finset.univ (by rw [rowR_map]; exact hx)
    refine accept_of_eq (h x h0 ?_) rfl rfl e
    rw [mem_rows] at hx; omega

/-- A copy of acceptable rows of a slot leaves acceptable rows in the result. -/
theorem Good.copy {s p n : ℕ} {f : B.view.ty.Contents (Elt F)} (h : Good B G s p n f) {lo K o : ℕ} (hs : s < 2) (hK : lo + K ≤ 1024)
    (hn : lo + K ≤ n) (ho : o + K ≤ 4096) (e : o = p + lo) (g : A.view.ty.Contents (Elt F)) :
    GoodOut A G o (o + K) ((dstM A o K ho).view.write (Elt F) g (ReadAs.same.apply ((srcM B s lo K hs hK).view.read (Elt F) f)) Finset.univ) :=
    fun x h0 h1 => by
  obtain ⟨y, rfl⟩ := (outR_mem_iff ho x).mp (mem_orows.mpr ⟨h0, h1⟩)
  have e1 : A.view.read (Elt F) ((dstM A o K ho).view.write (Elt F) g (ReadAs.same.apply ((srcM B s lo K hs hK).view.read (Elt F) f)) Finset.univ)
      ((outR o K ho).emb y) = B.view.readAt (Elt F) (rowR s lo K hs hK).toLoadRect f (ix3 (n0 := 1) 0 (y 0) (y 1)) := by
    refine (View.read_slice_write_emb (v := A.view) (outR o K ho) g _ (Finset.mem_univ y)).trans ?_
    exact down_apply (B.view.readAt (Elt F) (rowR s lo K hs hK).toLoadRect f) y
  exact accept_of_eq (h.read hs hK hn (ix3 (n0 := 1) 0 (y 0) (y 1))) ((outR_emb0 ho y).trans (congrArg (· + (y 0).val) e)) (outR_emb1 ho y) e1

/-- Rows of the result stay acceptable when contents agree on them. -/
theorem GoodOut.mono {lo hi : ℕ} {f g : A.view.ty.Contents (Elt F)} (h : GoodOut A G lo hi f)
    (e : ∀ i ∈ A.view.setOn (orows lo hi), g i = f i) : GoodOut A G lo hi g := fun x h0 h1 => by
  rw [View.read_apply, e _ (A.view.mem_setOn.mpr (mem_orows.mpr ⟨h0, h1⟩)), ← View.read_apply]; exact h x h0 h1

/-- Two adjacent blocks of acceptable rows are acceptable together. -/
theorem GoodOut.union {lo mid hi : ℕ} {f : A.view.ty.Contents (Elt F)} (h : GoodOut A G lo mid f) (h' : GoodOut A G mid hi f) :
    GoodOut A G lo hi f := fun x h0 h1 => by
  rcases Nat.lt_or_ge (x 0).val mid with hm | hm
  · exact h x h0 hm
  · exact h' x hm h1

end Contents

end Cert.Recur
-- ==== Proof.Steps.lean ====
/-
  What each piece of the kernel's body does to what the core holds: a doubling, a seed, the reads of the next seed
  while the slot's copies are in flight, the issue of a chunk's copies and the wait for them.
-/
module

public import proofs.«01_k».proof.Proof.Rows
public import Idealize.ShloMosaic.Lib.Tactic

@[expose] public section

noncomputable section

namespace Cert.Recur

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F] {U : Type} [URA U] [CountersIn U]

local notation "𝕄" => MT nD τ sig Unit (Elt F) ℕ U ℕ

variable {defs : Defs nD τ sig (Elt F) Λ} (𝒱 : Variants) (d : Dev nD) (bd : Option 𝒱.V)
variable (A : Memref sig .tc .hbm SOut .f32) (B : Memref sig .tc .vmem SBuf .f32) (S : DmaSems sig SSem)
variable (G : ℕ → Fin 1024 → F .f32 → Prop)

/-! ## What the core holds -/

/-- Rows `lo … hi` of slot `s`, at share `q` and contents `f`. -/
def slotP (s lo hi : ℕ) (q : PosShare TreeShare) (f : Buf (Elt F) (B.view.loc (d : Thread nD τ))) : sProp 𝕄 :=
  B.view.loc (d : Thread nD τ) ↦[B.view.setOn (rows s lo hi)]{q} f

/-- Rows `lo … hi` of the result, at contents `f`. -/
def outP (lo hi : ℕ) (f : Buf (Elt F) (A.view.loc (d : Thread nD τ))) : sProp 𝕄 :=
  A.view.loc (d : Thread nD τ) ↦[A.view.setOn (orows lo hi)]{fullShare} f

/-- Slot `s`, its first `n` rows acceptable for the rows from `p`. -/
def slotG (s p n : ℕ) : sProp 𝕄 :=
  iprop(∃ f, slotP d B s 0 1024 fullShare f ∗ ⌜Good B G s p n f⌝)

/-- Rows `lo … hi` of the result, acceptable. -/
def outG (lo hi : ℕ) : sProp 𝕄 := iprop(∃ f, outP d A lo hi f ∗ ⌜GoodOut A G lo hi f⌝)

/-! ## Loads and stores -/

/-- A load of rows of a slot, before the rest of a program, reads the contents held. -/
theorem wp_loadRows {α : Type} {s lo K : ℕ} (hs : s < 2) (h : lo + K ≤ 1024) (hK : 0 < K) {q : PosShare TreeShare}
    {f : Buf (Elt F) (B.view.loc (d : Thread nD τ))} (k : ((SSlab K).Idx → Elt F .f32) → Prog (TpuEff nD τ sig (Elt F) Λ .tc) α) (Q : α → sProp 𝕄) :
    (slotP d B s 0 1024 q f : sProp 𝕄)
      ⊢ iprop((slotP d B s 0 1024 q f -∗ wp frame (wpE defs 𝒱 (d : Thread nD τ) bd) Set.univ (k (readRows B s lo K hs h f)) Q)
        -∗ wp frame (wpE defs 𝒱 (d : Thread nD τ) bd) Set.univ (loadRows B s lo K hs h hK >>= k) Q) :=
  wp_load 𝒱 (d : Thread nD τ) bd Set.univ (by
    refine Finset.map_subset_map.mpr ?_
    rw [show (rowR s lo K hs h).toLoadRect.set = rows s lo (lo + K) from rowR_set hs h]
    exact rows_subset (by omega) h)

/-- A store of rows of a slot, before the rest of a program, leaves the contents with the rows replaced. -/
theorem wp_storeRows {α : Type} {s lo K : ℕ} (hs : s < 2) (h : lo + K ≤ 1024) (hK : 0 < K)
    {f : Buf (Elt F) (B.view.loc (d : Thread nD τ))} (w : (SSlab K).Idx → Elt F .f32) (k : PUnit → Prog (TpuEff nD τ sig (Elt F) Λ .tc) α) (Q : α → sProp 𝕄) :
    (slotP d B s 0 1024 fullShare f : sProp 𝕄)
      ⊢ iprop((slotP d B s 0 1024 fullShare (writeRows B s lo K hs h f w)
            -∗ wp frame (wpE defs 𝒱 (d : Thread nD τ) bd) Set.univ (k ⟨⟩) Q)
        -∗ wp frame (wpE defs 𝒱 (d : Thread nD τ) bd) Set.univ (storeRows B s lo K hs h hK w >>= k) Q) :=
  by
  have hS : (B.access (rowR s lo K hs h)).setOn Finset.univ ⊆ B.view.setOn (rows s 0 1024) := by
    show (B.view.slice (rowR s lo K hs h)).set ⊆ _
    rw [View.set_slice, rowR_set hs h]
    exact Finset.map_subset_map.mpr (rows_subset (by omega) h)
  exact wp_store (defs := defs) (Q := Q) (m := B) (r := rowR s lo K hs h) (w := w) (Mk := Finset.univ)
    (hx := View.stores_vmem_bits_univ (pos_slab hK) rfl) (hm := .inl rfl) (k := k) (f := f) 𝒱 (d : Thread nD τ) bd Set.univ hS

/-- A load of rows of a slot reads the contents held. -/
theorem wp_load1 {s lo K : ℕ} (hs : s < 2) (h : lo + K ≤ 1024) (hK : 0 < K) {q : PosShare TreeShare}
    {f : Buf (Elt F) (B.view.loc (d : Thread nD τ))} {Q : ((SSlab K).Idx → Elt F .f32) → sProp 𝕄} :
    (slotP d B s 0 1024 q f : sProp 𝕄)
      ⊢ iprop((slotP d B s 0 1024 q f -∗ Q (readRows B s lo K hs h f))
        -∗ wp frame (wpE defs 𝒱 (d : Thread nD τ) bd) Set.univ (loadRows B s lo K hs h hK) Q) := by
  iintro H Hk
  iapply (wp_loadRows 𝒱 d bd B hs h hK Prog.ret Q) $$ H
  iintro H
  rw [wp_ret]
  imodintro
  iapply Hk $$ H

/-- A store of rows of a slot leaves the contents with the rows replaced. -/
theorem wp_store1 {s lo K : ℕ} (hs : s < 2) (h : lo + K ≤ 1024) (hK : 0 < K)
    {f : Buf (Elt F) (B.view.loc (d : Thread nD τ))} (w : (SSlab K).Idx → Elt F .f32) {Q : PUnit → sProp 𝕄} :
    (slotP d B s 0 1024 fullShare f : sProp 𝕄)
      ⊢ iprop((slotP d B s 0 1024 fullShare (writeRows B s lo K hs h f w) -∗ Q ⟨⟩)
        -∗ wp frame (wpE defs 𝒱 (d : Thread nD τ) bd) Set.univ (storeRows B s lo K hs h hK w) Q) := by
  iintro H Hk
  iapply (wp_storeRows 𝒱 d bd B hs h hK w Prog.ret Q) $$ H
  iintro H
  rw [wp_ret]
  imodintro
  iapply Hk $$ H

/-- A doubling: twice as many rows of the slot are acceptable. -/
theorem wp_dbl {s e : ℕ} (hs : s < 2) (h : 4 * e ≤ 1024) (he : 0 < e) {c : FVec F SRow .f32} (hC : Closed G e c) {p : ℕ} {Q : PUnit → sProp 𝕄} :
    (slotG d B G s p (2 * e) : sProp 𝕄)
      ⊢ iprop((slotG d B G s p (4 * e) -∗ Q ⟨⟩) -∗ wp frame (wpE defs 𝒱 (d : Thread nD τ) bd) Set.univ (dbl B s e hs h he c) Q) := by
  unfold dbl slotG
  simp only [wp_bind]
  iintro ⟨%f, H, %hf⟩ Hk
  iapply (wp_load1 𝒱 d bd B hs _ he) $$ H
  iintro H
  iapply (wp_load1 𝒱 d bd B hs _ he) $$ H
  iintro H
  iapply (wp_load1 𝒱 d bd B hs _ he) $$ H
  iintro H
  iapply (wp_store1 𝒱 d bd B hs _ he _) $$ H
  iintro H
  iapply (wp_load1 𝒱 d bd B hs _ he) $$ H
  iintro H
  iapply (wp_store1 𝒱 d bd B hs _ he _) $$ H
  iintro H
  iapply Hk
  iexists _
  isplitl [H]; · iexact H
  ipureintro
  have hx := (hf.read hs (lo := 0) (K := e) (by omega) (by omega)).up_down
  have hy := (hf.read hs (lo := e) (K := e) (by omega) (by omega)).up_down
  have h1 := Rows.step hC hx hy
  have h2 := Rows.step hC hy (by rw [show p + e + e = p + 0 + 2 * e by omega]; exact h1)
  exact (hf.write hs (K := e) (m := 3 * e) (by omega) (by omega) h1).write hs (K := e) (by omega) (by omega)
    (by rw [show p + 3 * e = p + e + 2 * e by omega]; exact h2)

/-- A seed: the slot's first sixteen rows are acceptable. -/
theorem wp_seed {s : ℕ} (hs : s < 2) {p : ℕ} {w : (SSlab 16).Idx → Elt F .f32} (hw : Rows G p 16 w)
    {f : Buf (Elt F) (B.view.loc (d : Thread nD τ))} {Q : PUnit → sProp 𝕄} :
    (slotP d B s 0 1024 fullShare f : sProp 𝕄)
      ⊢ iprop((slotG d B G s p 16 -∗ Q ⟨⟩) -∗ wp frame (wpE defs 𝒱 (d : Thread nD τ) bd) Set.univ (seed B s hs w) Q) := by
  unfold seed slotG
  simp only [wp_bind]
  iintro H Hk
  iapply (wp_load1 𝒱 d bd B hs _ _) $$ H
  iintro H
  iapply (wp_store1 𝒱 d bd B hs _ _ _) $$ H
  iintro H
  iapply Hk
  iexists _
  isplitl [H]; · iexact H
  ipureintro
  have h0 : Good B G s p 0 f := fun x _ h => absurd h (Nat.not_lt_zero _)
  exact h0.write hs (K := 16) (by omega) (by omega) hw

/-- The next seed, read at any share of the slot. -/
theorem wp_next {s e n p p' : ℕ} (hs : s < 2) (he : e + 16 ≤ 1024) (hn : e + 16 ≤ n) {c : FVec F SRow .f32} (hC : Closed G e c)
    (hp : p' = p + 2 * e) {q : PosShare TreeShare} {f : Buf (Elt F) (B.view.loc (d : Thread nD τ))} (hf : Good B G s p n f)
    {Q : ((SSlab 16).Idx → Elt F .f32) → sProp 𝕄} :
    (slotP d B s 0 1024 q f : sProp 𝕄)
      ⊢ iprop((∀ w, ⌜Rows G p' 16 w⌝ -∗ slotP d B s 0 1024 q f -∗ Q w)
        -∗ wp frame (wpE defs 𝒱 (d : Thread nD τ) bd) Set.univ (next B s e hs he c) Q) := by
  unfold next
  simp only [wp_bind, wp_pure]
  iintro H Hk
  iapply (wp_load1 𝒱 d bd B hs _ _) $$ H
  iintro H
  iapply (wp_load1 𝒱 d bd B hs _ _) $$ H
  iintro H
  imodintro
  have hx := (hf.read hs (lo := 0) (K := 16) (by omega) (by omega)).up_down
  have hy := (hf.read hs (lo := e) (K := 16) (by omega) (by omega)).up_down
  subst hp
  have h1 := Rows.step hC (p := p) hx hy
  iapply Hk $$ %_ [] H
  ipureintro
  exact h1

/-! ## Splitting and joining -/

/-- Rows of a slot are two adjacent blocks of them. -/
theorem slot_split {s lo mid hi : ℕ} (h : lo ≤ mid) (h' : mid ≤ hi) {q : PosShare TreeShare} {f : Buf (Elt F) (B.view.loc (d : Thread nD τ))} :
    (slotP d B s lo hi q f : sProp 𝕄) ⊣⊢ iprop(slotP d B s lo mid q f ∗ slotP d B s mid hi q f) := by
  unfold slotP
  rw [← rows_union (s := s) h h', View.setOn, Finset.map_union]
  exact pointsTo_union (Finset.disjoint_map _ |>.mpr rows_disjoint)

/-- Rows of a slot are two halves of their share. -/
theorem slot_share {s lo hi : ℕ} {f : Buf (Elt F) (B.view.loc (d : Thread nD τ))} :
    (slotP d B s lo hi fullShare f : sProp 𝕄) ⊣⊢ iprop(slotP d B s lo hi fullShare.left f ∗ slotP d B s lo hi fullShare.right f) :=
  pointsTo_share (PosShare.mem_left_op_right fullShare)

/-- Rows of the result are two adjacent blocks of them. -/
theorem out_split {lo mid hi : ℕ} (h : lo ≤ mid) (h' : mid ≤ hi) {f : Buf (Elt F) (A.view.loc (d : Thread nD τ))} :
    (outP d A lo hi f : sProp 𝕄) ⊣⊢ iprop(outP d A lo mid f ∗ outP d A mid hi f) := by
  unfold outP
  rw [← orows_union h h', View.setOn, Finset.map_union]
  exact pointsTo_union (Finset.disjoint_map _ |>.mpr orows_disjoint)

/-- Two adjacent blocks of acceptable rows of the result are one. -/
theorem out_join {lo mid hi : ℕ} (h : lo ≤ mid) (h' : mid ≤ hi) :
    (iprop(outG d A G lo mid ∗ outG d A G mid hi) : sProp 𝕄) ⊢ outG d A G lo hi := by
  unfold outG
  iintro ⟨⟨%f, Hf, %hf⟩, ⟨%g, Hg, %hg⟩⟩
  have hd : Disjoint (A.view.setOn (orows lo mid)) (A.view.setOn (orows mid hi)) := Finset.disjoint_map _ |>.mpr orows_disjoint
  iexists ((A.view.setOn (orows mid hi)).piecewise g f)
  isplitl [Hf Hg]
  · unfold outP
    rw [← orows_union h h', show A.view.setOn (orows lo mid ∪ orows mid hi) = A.view.setOn (orows lo mid) ∪ A.view.setOn (orows mid hi) from
      Finset.map_union _ _]
    iapply (pointsTo_join hd)
    isplitl [Hf]
    · iexact Hf
    · iexact Hg
  · ipureintro
    refine GoodOut.union (hf.mono fun i hi => ?_) (hg.mono fun i hi => ?_)
    · exact Finset.piecewise_eq_of_notMem _ _ _ (Finset.disjoint_left.mp hd hi)
    · exact Finset.piecewise_eq_of_mem _ _ _ hi

/-! ## Copies -/

/-- The copy of rows `lo … lo + K` of slot `s`, held at contents `f`, to the result's rows from `o`, in flight. -/
def fly (s lo o K c t : ℕ) (ho : o + K ≤ 4096) (hc : c < 5) (ht : t < 4) (f : Buf (Elt F) (B.view.loc (d : Thread nD τ))) : sProp 𝕄 :=
  Transfers.Flight countersEmb (d : Thread nD τ) (.dma (cell S c t hc ht)) () (dstM A o K ho).view.dmaCredit
    iprop(outG d A G o (o + K) ∗ slotP d B s lo (lo + K) fullShare.right f)

/-- A chunk's semaphore, at zero. -/
def cellZ (c t : ℕ) (hc : c < 5) (ht : t < 4) : sProp 𝕄 := semVal ((d : Thread nD τ), SemLoc.dma (cell S c t hc ht)) 0

/-- Issuing one copy: the rows that it reads and the rows that it writes go with it. -/
theorem wp_copy {s lo o K c t p n : ℕ} (hs : s < 2) (h : lo + K ≤ 1024) (ho : o + K ≤ 4096) (hc : c < 5) (ht : t < 4) (hK : 0 < K)
    {f : Buf (Elt F) (B.view.loc (d : Thread nD τ))} (hf : Good B G s p n f) (hn : lo + K ≤ n) (e : o = p + lo)
    {g : Buf (Elt F) (A.view.loc (d : Thread nD τ))} {Q : PUnit → sProp 𝕄} :
    (iprop(slotP d B s lo (lo + K) fullShare.right f ∗ outP d A o (o + K) g ∗ cellZ d S c t hc ht) : sProp 𝕄)
      ⊢ iprop((fly d A B S G s lo o K c t ho hc ht f -∗ Q ⟨⟩)
        -∗ wp frame (wpE defs 𝒱 (d : Thread nD τ) bd) Set.univ (copy A B S s lo o K c t hs h ho hc ht) Q) := by
  have esrc : (srcM B s lo K hs h).view.set = B.view.setOn (rows s lo (lo + K)) := by
    refine (View.set_reshape (v := B.view.slice (rowR s lo K hs h)) _).trans ?_
    rw [View.set_slice, rowR_set hs h]; rfl
  have edst : (dstM A o K ho).view.set = A.view.setOn (orows o (o + K)) := by
    show (A.view.slice (outR o K ho)).set = _
    rw [View.set_slice, outR_set ho]; rfl
  have step : (iprop(slotP d B s lo (lo + K) fullShare.right f ∗ outP d A o (o + K) g ∗ cellZ d S c t hc ht) : sProp 𝕄)
      ⊢ iprop((Transfers.Flight countersEmb (d : Thread nD τ) (.dma (cell S c t hc ht)) () (dstM A o K ho).view.dmaCredit
            iprop(outP d A o (o + K) ((dstM A o K ho).view.write (Elt F) g (ReadAs.same.apply ((srcM B s lo K hs h).view.read (Elt F) f)) Finset.univ)
              ∗ slotP d B s lo (lo + K) fullShare.right f) -∗ wp frame (wpE defs 𝒱 (d : Thread nD τ) bd) Set.univ (Prog.ret PUnit.unit) Q)
        -∗ wp frame (wpE defs 𝒱 (d : Thread nD τ) bd) Set.univ (copy A B S s lo o K c t hs h ho hc ht) Q) := by
    have st := Transfers.wp_dmaLocal (defs := defs) (Q := Q) (countersEmb (U := U)) 𝒱 (d : Thread nD τ) bd (src := srcM B s lo K hs h) (via := .same)
        (dst := dstM A o K ho) (sm := .dma (cell S c t hc ht)) (hsrc := (View.wordExact_bits rfl).reshape _ _) (hdst := View.wordExact_bits rfl)
        (hsem := ⟨Or.inl rfl, trivial⟩) (k := Prog.ret) (q := fullShare.right) (fs := f) (Sd := A.view.setOn (orows o (o + K))) (fd := g)
        () (dstM A o K ho).view.dmaCredit rfl (View.dmaCredit_pos _ (pos_rows hK)) edst.subset
    rw [esrc] at st
    exact st
  iintro H Hk
  iapply step $$ H
  iintro HF
  rw [wp_ret]
  imodintro
  iapply Hk
  unfold fly
  have mono : (iprop(outP d A o (o + K) ((dstM A o K ho).view.write (Elt F) g (ReadAs.same.apply ((srcM B s lo K hs h).view.read (Elt F) f)) Finset.univ)
      ∗ slotP d B s lo (lo + K) fullShare.right f) : sProp 𝕄) ⊢ iprop(outG d A G o (o + K) ∗ slotP d B s lo (lo + K) fullShare.right f) := by
    unfold outG
    iintro ⟨H, H'⟩
    isplitl [H]
    · iexists _
      isplitl [H]; · iexact H
      ipureintro
      exact hf.copy hs h hn ho e g
    · iexact H'
  iapply (Transfers.Flight_mono countersEmb (d : Thread nD τ) mono)
  iexact HF

/-- Waiting for one copy: the rows that it wrote are acceptable, and the rows that it read come back. -/
theorem wp_wait {s lo o K c t : ℕ} (hs : s < 2) (h : lo + K ≤ 1024) (ho : o + K ≤ 4096) (hc : c < 5) (ht : t < 4)
    {f : Buf (Elt F) (B.view.loc (d : Thread nD τ))} {Q : PUnit → sProp 𝕄} :
    (iprop(fly d A B S G s lo o K c t ho hc ht f ∗ ∃ W, owes (d : Thread nD τ) 0 W) : sProp 𝕄)
      ⊢ iprop((outG d A G o (o + K) ∗ slotP d B s lo (lo + K) fullShare.right f ∗ cellZ d S c t hc ht ∗ (∃ W, owes (d : Thread nD τ) 0 W) -∗ Q ⟨⟩)
        -∗ wp frame (wpE defs 𝒱 (d : Thread nD τ) bd) Set.univ (wait A B S s lo o K c t hs h ho hc ht) Q) := by
  unfold fly cellZ
  iintro ⟨HF, ⟨%W, HW⟩⟩ Hk
  have step := Transfers.wp_waitLocal (defs := defs) (Q := Q) (countersEmb (U := U)) 𝒱 (d : Thread nD τ) bd (sem := cell S c t hc ht)
    (srcw := srcM B s lo K hs h) (dstw := dstM A o K ho) (hsrc := (View.wordExact_bits rfl).reshape _ _) (hdst := View.wordExact_bits rfl)
    (k := Prog.ret) () (N := (dstM A o K ho).view.dmaCredit) rfl
    (D := iprop(outG d A G o (o + K) ∗ slotP d B s lo (lo + K) fullShare.right f)) (W := W)
  iapply step $$ [HF HW]
  · isplitl [HF]
    · iexact HF
    · iexact HW
  iintro ⟨⟨Ho, Hs⟩, Hc, HW⟩
  rw [wp_ret]
  imodintro
  iapply Hk
  isplitl [Ho]; · iexact Ho
  isplitl [Hs]; · iexact Hs
  isplitl [Hc]; · iexact Hc
  iexists _
  iexact HW

end Cert.Recur
-- ==== Proof.Body.lean ====
/-
  The kernel's body as a whole: if the seed is acceptable and the acceptable values are closed under the seven
  recurrences, then after the body every row of the result is acceptable, the slots are back and every semaphore is at
  zero.
-/
module

public import proofs.«01_k».proof.Proof.Steps

@[expose] public section

noncomputable section

namespace Cert.Recur

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F] {U : Type} [URA U] [CountersIn U]

local notation "𝕄" => MT nD τ sig Unit (Elt F) ℕ U ℕ

variable {defs : Defs nD τ sig (Elt F) Λ} (𝒱 : Variants) (d : Dev nD) (bd : Option 𝒱.V)
variable (A : Memref sig .tc .hbm SOut .f32) (B : Memref sig .tc .vmem SBuf .f32) (S : DmaSems sig SSem)
variable (G : ℕ → Fin 1024 → F .f32 → Prop)

/-- Rows of a slot cut at a row, however its number is written. -/
theorem slot_cut {s lo mid mid' hi : ℕ} (e : mid = mid') (h : lo ≤ mid) (h' : mid ≤ hi) {q : PosShare TreeShare}
    {f : Buf (Elt F) (B.view.loc (d : Thread nD τ))} :
    (slotP d B s lo hi q f : sProp 𝕄) ⊣⊢ iprop(slotP d B s lo mid q f ∗ slotP d B s mid' hi q f) := by
  subst e; exact slot_split d B h h'

/-- Rows of the result cut at a row, however the numbers are written. -/
theorem out_cut {lo mid mid' hi : ℕ} (e : mid = mid') (h : lo ≤ mid) (h' : mid ≤ hi)
    {f : Buf (Elt F) (A.view.loc (d : Thread nD τ))} :
    (outP d A lo hi f : sProp 𝕄) ⊣⊢ iprop(outP d A lo mid f ∗ outP d A mid' hi f) := by
  subst e; exact out_split d A h h'

/-- Acceptable rows of the result joined, however the numbers are written. -/
theorem out_glue {lo mid mid' hi hi' : ℕ} (e : mid = mid') (e' : hi = hi') (h : lo ≤ mid) (h' : mid ≤ hi) :
    (iprop(outG d A G lo mid ∗ outG d A G mid' hi) : sProp 𝕄) ⊢ outG d A G lo hi' := by
  subst e e'; exact out_join d A G h h'

/-- A chunk's four semaphores, at zero. -/
def cells (c : ℕ) (hc : c < 5) : sProp 𝕄 :=
  iprop(cellZ d S c 0 hc (by omega) ∗ cellZ d S c 1 hc (by omega) ∗ cellZ d S c 2 hc (by omega) ∗ cellZ d S c 3 hc (by omega))

/-- A chunk's four copies in flight: half of the slot's share stays with the core, the other half of the rows being
    copied is with the copies. -/
def inFlight (s o K c : ℕ) (ho : o + 4 * K ≤ 4096) (hc : c < 5) (f : Buf (Elt F) (B.view.loc (d : Thread nD τ))) : sProp 𝕄 :=
  iprop(slotP d B s (4 * K) 1024 fullShare.right f
    ∗ fly d A B S G s 0 o K c 0 (by omega) hc (by omega) f ∗ fly d A B S G s K (o + K) K c 1 (by omega) hc (by omega) f
    ∗ fly d A B S G s (2 * K) (o + 2 * K) K c 2 (by omega) hc (by omega) f
    ∗ fly d A B S G s (3 * K) (o + 3 * K) K c 3 (by omega) hc (by omega) f)

/-- Issuing a chunk's copies. -/
theorem wp_copies {s o K c n : ℕ} (hs : s < 2) (h : 4 * K ≤ 1024) (ho : o + 4 * K ≤ 4096) (hc : c < 5) (hK : 0 < K) (hn : 4 * K ≤ n)
    {o' : ℕ} (eo : o + 4 * K = o') {g : Buf (Elt F) (A.view.loc (d : Thread nD τ))} {Q : PUnit → sProp 𝕄} :
    (iprop(slotG d B G s o n ∗ outP d A o 4096 g ∗ cells d S c hc) : sProp 𝕄)
      ⊢ iprop((∀ f, ⌜Good B G s o n f⌝ -∗ slotP d B s 0 1024 fullShare.left f -∗ inFlight d A B S G s o K c ho hc f -∗ outP d A o' 4096 g -∗ Q ⟨⟩)
        -∗ wp frame (wpE defs 𝒱 (d : Thread nD τ) bd) Set.univ (copies A B S s o K c hs h ho hc) Q) := by
  subst eo
  unfold copies slotG cells inFlight
  simp only [wp_bind]
  iintro ⟨⟨%f, Hs, %hf⟩, Ho, Hc0, Hc1, Hc2, Hc3⟩ Hk
  icases (slot_share d B).1 $$ Hs with ⟨Hl, Hs⟩
  icases (slot_cut d B (mid := 0 + K) (mid' := K) (by omega) (by omega) (by omega)).1 $$ Hs with ⟨Hs0, Hs⟩
  icases (slot_cut d B (mid := K + K) (mid' := 2 * K) (by omega) (by omega) (by omega)).1 $$ Hs with ⟨Hs1, Hs⟩
  icases (slot_cut d B (mid := 2 * K + K) (mid' := 3 * K) (by omega) (by omega) (by omega)).1 $$ Hs with ⟨Hs2, Hs⟩
  icases (slot_cut d B (mid := 3 * K + K) (mid' := 4 * K) (by omega) (by omega) (by omega)).1 $$ Hs with ⟨Hs3, Hs⟩
  icases (out_cut d A (mid := o + K) (mid' := o + K) (by omega) (by omega) (by omega)).1 $$ Ho with ⟨Ho0, Ho⟩
  icases (out_cut d A (mid := o + K + K) (mid' := o + 2 * K) (by omega) (by omega) (by omega)).1 $$ Ho with ⟨Ho1, Ho⟩
  icases (out_cut d A (mid := o + 2 * K + K) (mid' := o + 3 * K) (by omega) (by omega) (by omega)).1 $$ Ho with ⟨Ho2, Ho⟩
  icases (out_cut d A (mid := o + 3 * K + K) (mid' := o + 4 * K) (by omega) (by omega) (by omega)).1 $$ Ho with ⟨Ho3, Ho⟩
  have h0 : 0 + K ≤ n := by omega
  have h1 : K + K ≤ n := by omega
  have h2 : 2 * K + K ≤ n := by omega
  have h3 : 3 * K + K ≤ n := by omega
  iapply (wp_copy 𝒱 d bd A B S G hs _ _ hc _ hK hf h0 rfl) $$ [Hs0 Ho0 Hc0]
  · isplitl [Hs0]; · iexact Hs0
    isplitl [Ho0]; · iexact Ho0
    iexact Hc0
  iintro F0
  iapply (wp_copy 𝒱 d bd A B S G hs _ _ hc _ hK hf h1 rfl) $$ [Hs1 Ho1 Hc1]
  · isplitl [Hs1]; · iexact Hs1
    isplitl [Ho1]; · iexact Ho1
    iexact Hc1
  iintro F1
  iapply (wp_copy 𝒱 d bd A B S G hs _ _ hc _ hK hf h2 rfl) $$ [Hs2 Ho2 Hc2]
  · isplitl [Hs2]; · iexact Hs2
    isplitl [Ho2]; · iexact Ho2
    iexact Hc2
  iintro F2
  iapply (wp_copy 𝒱 d bd A B S G hs _ _ hc _ hK hf h3 rfl) $$ [Hs3 Ho3 Hc3]
  · isplitl [Hs3]; · iexact Hs3
    isplitl [Ho3]; · iexact Ho3
    iexact Hc3
  iintro F3
  iapply Hk $$ %f [] Hl [Hs F0 F1 F2 F3] Ho
  · ipureintro; exact hf
  · isplitl [Hs]; · iexact Hs
    isplitl [F0]; · iexact F0
    isplitl [F1]; · iexact F1
    isplitl [F2]; · iexact F2
    iexact F3

/-- Waiting for a chunk's copies: its rows of the result are acceptable and the slot is whole again. -/
theorem wp_waits {s o K c : ℕ} (hs : s < 2) (h : 4 * K ≤ 1024) (ho : o + 4 * K ≤ 4096) (hc : c < 5)
    {o' : ℕ} (eo : o + 4 * K = o') {f : Buf (Elt F) (B.view.loc (d : Thread nD τ))} {Q : PUnit → sProp 𝕄} :
    (iprop(slotP d B s 0 1024 fullShare.left f ∗ inFlight d A B S G s o K c ho hc f ∗ ∃ W, owes (d : Thread nD τ) 0 W) : sProp 𝕄)
      ⊢ iprop((slotP d B s 0 1024 fullShare f -∗ outG d A G o o' -∗ cells d S c hc -∗ (∃ W, owes (d : Thread nD τ) 0 W) -∗ Q ⟨⟩)
        -∗ wp frame (wpE defs 𝒱 (d : Thread nD τ) bd) Set.univ (waits A B S s o K c hs h ho hc) Q) := by
  unfold waits cells inFlight
  simp only [wp_bind]
  iintro ⟨Hl, ⟨Hs, F0, F1, F2, F3⟩, HW⟩ Hk
  iapply (wp_wait 𝒱 d bd A B S G hs _ _ hc _) $$ [F0 HW]
  · isplitl [F0]; · iexact F0
    iexact HW
  iintro ⟨O0, S0, C0, HW⟩
  iapply (wp_wait 𝒱 d bd A B S G hs _ _ hc _) $$ [F1 HW]
  · isplitl [F1]; · iexact F1
    iexact HW
  iintro ⟨O1, S1, C1, HW⟩
  iapply (wp_wait 𝒱 d bd A B S G hs _ _ hc _) $$ [F2 HW]
  · isplitl [F2]; · iexact F2
    iexact HW
  iintro ⟨O2, S2, C2, HW⟩
  iapply (wp_wait 𝒱 d bd A B S G hs _ _ hc _) $$ [F3 HW]
  · isplitl [F3]; · iexact F3
    iexact HW
  iintro ⟨O3, S3, C3, HW⟩
  iapply Hk $$ [Hl S0 S1 S2 S3 Hs] [O0 O1 O2 O3] [C0 C1 C2 C3] HW
  · iapply (slot_share d B).2
    isplitl [Hl]; · iexact Hl
    iapply (slot_cut d B (mid := 0 + K) (mid' := K) (by omega) (by omega) (by omega)).2
    isplitl [S0]; · iexact S0
    iapply (slot_cut d B (mid := K + K) (mid' := 2 * K) (by omega) (by omega) (by omega)).2
    isplitl [S1]; · iexact S1
    iapply (slot_cut d B (mid := 2 * K + K) (mid' := 3 * K) (by omega) (by omega) (by omega)).2
    isplitl [S2]; · iexact S2
    iapply (slot_cut d B (mid := 3 * K + K) (mid' := 4 * K) (by omega) (by omega) (by omega)).2
    isplitl [S3]; · iexact S3
    iexact Hs
  · iapply (out_glue d A G (mid := o + K) (mid' := o + K) (hi := o + 4 * K) rfl eo (by omega) (by omega))
    isplitl [O0]; · iexact O0
    iapply (out_glue d A G (mid := o + K + K) (mid' := o + 2 * K) (hi := o + 4 * K) (by omega) rfl (by omega) (by omega))
    isplitl [O1]; · iexact O1
    iapply (out_glue d A G (mid := o + 2 * K + K) (mid' := o + 3 * K) (hi := o + 3 * K + K) (by omega) (by omega) (by omega) (by omega))
    isplitl [O2]; · iexact O2
    iexact O3
  · isplitl [C0]; · iexact C0
    isplitl [C1]; · iexact C1
    isplitl [C2]; · iexact C2
    iexact C3

/-- Filling a slot to 512 rows. -/
theorem wp_fill {s p : ℕ} (hs : s < 2) {c : ℕ → FVec F SRow .f32} (hC : ∀ i < 7, Closed G (8 * 2 ^ i) (c i)) {Q : PUnit → sProp 𝕄} :
    (slotG d B G s p 16 : sProp 𝕄)
      ⊢ iprop((slotG d B G s p 512 -∗ Q ⟨⟩) -∗ wp frame (wpE defs 𝒱 (d : Thread nD τ) bd) Set.univ (fill B s hs c) Q) := by
  unfold fill
  simp only [wp_bind]
  iintro H Hk
  iapply (wp_dbl 𝒱 d bd B G (e := 8) hs _ _ (hC 0 (by omega))) $$ H
  iintro H
  iapply (wp_dbl 𝒱 d bd B G (e := 16) hs _ _ (hC 1 (by omega))) $$ H
  iintro H
  iapply (wp_dbl 𝒱 d bd B G (e := 32) hs _ _ (hC 2 (by omega))) $$ H
  iintro H
  iapply (wp_dbl 𝒱 d bd B G (e := 64) hs _ _ (hC 3 (by omega))) $$ H
  iintro H
  iapply (wp_dbl 𝒱 d bd B G (e := 128) hs _ _ (hC 4 (by omega))) $$ H
  iintro H
  iapply Hk
  iexact H

/-- Filling a slot. -/
theorem wp_fillAll {s p : ℕ} (hs : s < 2) {c : ℕ → FVec F SRow .f32} (hC : ∀ i < 7, Closed G (8 * 2 ^ i) (c i)) {Q : PUnit → sProp 𝕄} :
    (slotG d B G s p 16 : sProp 𝕄)
      ⊢ iprop((slotG d B G s p 1024 -∗ Q ⟨⟩) -∗ wp frame (wpE defs 𝒱 (d : Thread nD τ) bd) Set.univ (fillAll B s hs c) Q) := by
  unfold fillAll
  simp only [wp_bind]
  iintro H Hk
  iapply (wp_fill 𝒱 d bd B G hs hC) $$ H
  iintro H
  iapply (wp_dbl 𝒱 d bd B G (e := 256) hs _ _ (hC 5 (by omega))) $$ H
  iintro H
  iapply Hk
  iexact H

/-- What the core holds before the body and, the result's rows being acceptable, after it. -/
def around (R : sProp 𝕄) : sProp 𝕄 :=
  iprop(R ∗ (∃ f, slotP d B 0 0 1024 fullShare f) ∗ (∃ f, slotP d B 1 0 1024 fullShare f)
    ∗ cells d S 0 (by omega) ∗ cells d S 1 (by omega) ∗ cells d S 2 (by omega) ∗ cells d S 3 (by omega) ∗ cells d S 4 (by omega)
    ∗ ∃ W, owes (d : Thread nD τ) 0 W)

/-- The body. -/
theorem wp_body {w : (SSlab 16).Idx → Elt F .f32} (hw : Rows G 0 16 w) {c : ℕ → FVec F SRow .f32}
    (hC : ∀ i < 7, Closed G (8 * 2 ^ i) (c i)) {g : Buf (Elt F) (A.view.loc (d : Thread nD τ))} :
    (around d B S (outP d A 0 4096 g) : sProp 𝕄)
      ⊢ wp frame (wpE defs 𝒱 (d : Thread nD τ) bd) Set.univ (body A B S w c) (fun _ => around d B S (outG d A G 0 4096)) := by
  unfold body around
  simp only [wp_bind]
  iintro ⟨Ho, ⟨%f0, H0⟩, ⟨%f1, H1⟩, C0, C1, C2, C3, C4, HW⟩
  -- chunk 0
  iapply (wp_seed 𝒱 d bd B G (p := 0) _ hw) $$ H0
  iintro H0
  iapply (wp_fill 𝒱 d bd B G _ hC) $$ H0
  iintro H0
  iapply (wp_copies 𝒱 d bd A B S G (o := 0) (o' := 512) (K := 128) (c := 0) (n := 512) _ _ _ _ (by decide) (by decide) rfl) $$ [H0 Ho C0]
  · isplitl [H0]; · iexact H0
    isplitl [Ho]; · iexact Ho
    iexact C0
  iintro %f0' %hf0 L0 F0 Ho
  iapply (wp_next 𝒱 d bd B G (p' := 512) _ _ (by decide) (hC 5 (by omega)) rfl hf0) $$ L0
  iintro %w1 %hw1 L0
  -- chunk 1
  iapply (wp_seed 𝒱 d bd B G (p := 512) _ hw1) $$ H1
  iintro H1
  iapply (wp_fillAll 𝒱 d bd B G _ hC) $$ H1
  iintro H1
  iapply (wp_copies 𝒱 d bd A B S G (o := 512) (o' := 1536) (K := 256) (c := 1) (n := 1024) _ _ _ _ (by decide) (by decide) rfl) $$ [H1 Ho C1]
  · isplitl [H1]; · iexact H1
    isplitl [Ho]; · iexact Ho
    iexact C1
  iintro %f1' %hf1 L1 F1 Ho
  iapply (wp_next 𝒱 d bd B G (p' := 1536) _ _ (by decide) (hC 6 (by omega)) rfl hf1) $$ L1
  iintro %w2 %hw2 L1
  iapply (wp_waits 𝒱 d bd A B S G (o' := 512) _ _ _ _ rfl) $$ [L0 F0 HW]
  · isplitl [L0]; · iexact L0
    isplitl [F0]; · iexact F0
    iexact HW
  iintro H0 O0 C0 HW
  -- chunk 2
  iapply (wp_seed 𝒱 d bd B G (p := 1536) _ hw2) $$ H0
  iintro H0
  iapply (wp_fillAll 𝒱 d bd B G _ hC) $$ H0
  iintro H0
  iapply (wp_copies 𝒱 d bd A B S G (o := 1536) (o' := 2560) (K := 256) (c := 2) (n := 1024) _ _ _ _ (by decide) (by decide) rfl) $$ [H0 Ho C2]
  · isplitl [H0]; · iexact H0
    isplitl [Ho]; · iexact Ho
    iexact C2
  iintro %f2' %hf2 L0 F0 Ho
  iapply (wp_next 𝒱 d bd B G (p' := 2560) _ _ (by decide) (hC 6 (by omega)) rfl hf2) $$ L0
  iintro %w3 %hw3 L0
  iapply (wp_waits 𝒱 d bd A B S G (o' := 1536) _ _ _ _ rfl) $$ [L1 F1 HW]
  · isplitl [L1]; · iexact L1
    isplitl [F1]; · iexact F1
    iexact HW
  iintro H1 O1 C1 HW
  -- chunk 3
  iapply (wp_seed 𝒱 d bd B G (p := 2560) _ hw3) $$ H1
  iintro H1
  iapply (wp_fillAll 𝒱 d bd B G _ hC) $$ H1
  iintro H1
  iapply (wp_copies 𝒱 d bd A B S G (o := 2560) (o' := 3584) (K := 256) (c := 3) (n := 1024) _ _ _ _ (by decide) (by decide) rfl) $$ [H1 Ho C3]
  · isplitl [H1]; · iexact H1
    isplitl [Ho]; · iexact Ho
    iexact C3
  iintro %f3' %hf3 L1 F1 Ho
  iapply (wp_next 𝒱 d bd B G (p' := 3584) _ _ (by decide) (hC 6 (by omega)) rfl hf3) $$ L1
  iintro %w4 %hw4 L1
  iapply (wp_waits 𝒱 d bd A B S G (o' := 2560) _ _ _ _ rfl) $$ [L0 F0 HW]
  · isplitl [L0]; · iexact L0
    isplitl [F0]; · iexact F0
    iexact HW
  iintro H0 O2 C2 HW
  -- chunk 4
  iapply (wp_seed 𝒱 d bd B G (p := 3584) _ hw4) $$ H0
  iintro H0
  iapply (wp_fill 𝒱 d bd B G _ hC) $$ H0
  iintro H0
  iapply (wp_copies 𝒱 d bd A B S G (o := 3584) (o' := 4096) (K := 128) (c := 4) (n := 512) _ _ _ _ (by decide) (by decide) rfl) $$ [H0 Ho C4]
  · isplitl [H0]; · iexact H0
    isplitl [Ho]; · iexact Ho
    iexact C4
  iintro %f4' %hf4 L0 F0 Ho
  iapply (wp_waits 𝒱 d bd A B S G (o' := 3584) _ _ _ _ rfl) $$ [L1 F1 HW]
  · isplitl [L1]; · iexact L1
    isplitl [F1]; · iexact F1
    iexact HW
  iintro H1 O3 C3 HW
  iapply (wp_waits 𝒱 d bd A B S G (o' := 4096) _ _ _ _ rfl) $$ [L0 F0 HW]
  · isplitl [L0]; · iexact L0
    isplitl [F0]; · iexact F0
    iexact HW
  iintro H0 O4 C4 HW
  isplitl [O0 O1 O2 O3 O4]
  · iapply (out_join d A G (mid := 512) (by decide) (by decide))
    isplitl [O0]; · iexact O0
    iapply (out_join d A G (mid := 1536) (by decide) (by decide))
    isplitl [O1]; · iexact O1
    iapply (out_join d A G (mid := 2560) (by decide) (by decide))
    isplitl [O2]; · iexact O2
    iapply (out_join d A G (mid := 3584) (by decide) (by decide))
    isplitl [O3]; · iexact O3
    iexact O4
  isplitl [H0]
  · iexists _; iexact H0
  isplitl [H1]
  · iexists _; iexact H1
  isplitl [C0]; · iexact C0
  isplitl [C1]; · iexact C1
  isplitl [C2]; · iexact C2
  isplitl [C3]; · iexact C3
  isplitl [C4]; · iexact C4
  iexact HW

end Cert.Recur
-- ==== Proof.Whole.lean ====
/-
  The kernel's body from whole buffers: what it does to the result, the two-slot buffer and the twenty semaphores, each
  held whole.
-/
module

public import proofs.«01_k».proof.Proof.Body
public import Idealize.ShloMosaic.Lib.Pipeline.Kit

@[expose] public section

noncomputable section

namespace Cert.Recur

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F] {U : Type} [URA U] [CountersIn U]

local notation "𝕄" => MT nD τ sig Unit (Elt F) ℕ U ℕ

variable {defs : Defs nD τ sig (Elt F) Λ} (𝒱 : Variants) (d : Dev nD) (bd : Option 𝒱.V)
variable (A : Memref sig .tc .hbm SOut .f32) (B : Memref sig .tc .vmem SBuf .f32) (S : DmaSems sig SSem)
variable (G : ℕ → Fin 1024 → F .f32 → Prop)

/-- The kernel's semaphores, by chunk and quarter. -/
def osem (k : Fin 5 × Fin 4) : SemLoc sig := .dma (cell S k.1.val k.2.val k.1.isLt k.2.isLt)

/-- All of them at zero, chunk by chunk. -/
theorem cells_eq : (Pipeline.ownSems0 (osem S) d : sProp 𝕄)
    = iprop(cells d S 0 (by omega) ∗ cells d S 1 (by omega) ∗ cells d S 2 (by omega) ∗ cells d S 3 (by omega) ∗ cells d S 4 (by omega)) := by
  unfold Pipeline.ownSems0
  rw [bigSep_univ_prod]
  have h : ∀ c : Fin 5, bigSep Finset.univ (fun t : Fin 4 => (semVal ((d : Thread nD τ), osem S (c, t)) 0 : sProp 𝕄)) = cells d S c.val c.isLt :=
    fun c => bigSep_univ_eq_bigSepL [(0 : Fin 4), 1, 2, 3] (by decide) (by decide) _
  rw [bigSep_congr fun c _ => h c]
  exact bigSep_univ_eq_bigSepL [(0 : Fin 5), 1, 2, 3, 4] (by decide) (by decide) _

/-- The two slots are all of the buffer's elements. -/
theorem slots_set (hB : B.view.set = Finset.univ) : B.view.setOn (rows 0 0 1024) ∪ B.view.setOn (rows 1 0 1024) = Finset.univ := by
  refine (Finset.map_union _ _).symm.trans ?_
  rw [slots_union]; exact hB

/-- The two slots share no element of the buffer. -/
theorem slots_sep : Disjoint (B.view.setOn (rows 0 0 1024)) (B.view.setOn (rows 1 0 1024)) := Finset.disjoint_map _ |>.mpr slots_disjoint

/-- The buffer whole is its two slots. -/
theorem slots_cut (hB : B.view.set = Finset.univ) :
    (iprop(∃ f : Buf (Elt F) (B.view.loc (d : Thread nD τ)), B.view.loc (d : Thread nD τ) ↦{fullShare} f) : sProp 𝕄)
      ⊢ iprop((∃ f, slotP d B 0 0 1024 fullShare f) ∗ ∃ f, slotP d B 1 0 1024 fullShare f) := by
  rw [← slots_set B hB]
  iintro ⟨%f, H⟩
  icases (pointsTo_union (slots_sep B)).1 $$ H with ⟨H0, H1⟩
  isplitl [H0]
  · iexists f; unfold slotP; iexact H0
  · iexists f; unfold slotP; iexact H1

/-- Its two slots are the buffer whole. -/
theorem slots_glue (hB : B.view.set = Finset.univ) :
    (iprop((∃ f, slotP d B 0 0 1024 fullShare f) ∗ ∃ f, slotP d B 1 0 1024 fullShare f) : sProp 𝕄)
      ⊢ iprop(∃ f : Buf (Elt F) (B.view.loc (d : Thread nD τ)), B.view.loc (d : Thread nD τ) ↦{fullShare} f) := by
  rw [← slots_set B hB]
  unfold slotP
  iintro ⟨⟨%f, Hf⟩, ⟨%g, Hg⟩⟩
  iexists _
  iapply (pointsTo_join (slots_sep B))
  isplitl [Hf]
  · iexact Hf
  · iexact Hg

/-- The rows of the result are all of its elements. -/
theorem out_set (hA : A.view.set = Finset.univ) : A.view.setOn (orows 0 4096) = Finset.univ := by
  rw [orows_univ]; exact hA

/-- The body from whole buffers. -/
theorem wp_whole (hA : A.view.set = Finset.univ) (hB : B.view.set = Finset.univ)
    {w : (SSlab 16).Idx → Elt F .f32} (hw : Rows G 0 16 w) {c : ℕ → FVec F SRow .f32}
    (hC : ∀ i < 7, Closed G (8 * 2 ^ i) (c i)) {g : Buf (Elt F) (A.view.loc (d : Thread nD τ))} {Q : PUnit → sProp 𝕄} :
    (iprop((A.view.loc (d : Thread nD τ) ↦{fullShare} g)
        ∗ (∃ f : Buf (Elt F) (B.view.loc (d : Thread nD τ)), B.view.loc (d : Thread nD τ) ↦{fullShare} f)
        ∗ Pipeline.ownSems0 (osem S) d ∗ ∃ W, owes (d : Thread nD τ) 0 W) : sProp 𝕄)
      ⊢ iprop((∀ g' : Buf (Elt F) (A.view.loc (d : Thread nD τ)), ⌜GoodOut A G 0 4096 g'⌝ -∗ (A.view.loc (d : Thread nD τ) ↦{fullShare} g')
            -∗ (∃ f : Buf (Elt F) (B.view.loc (d : Thread nD τ)), B.view.loc (d : Thread nD τ) ↦{fullShare} f)
            -∗ Pipeline.ownSems0 (osem S) d -∗ (∃ W, owes (d : Thread nD τ) 0 W) -∗ Q ⟨⟩)
        -∗ wp frame (wpE defs 𝒱 (d : Thread nD τ) bd) Set.univ (body A B S w c) Q) := by
  have e : ∀ g : Buf (Elt F) (A.view.loc (d : Thread nD τ)), (A.view.loc (d : Thread nD τ) ↦{fullShare} g : sProp 𝕄) = outP d A 0 4096 g := fun g => by
    unfold outP; rw [out_set A hA]
  simp only [e, cells_eq]
  iintro ⟨Ho, HB, Hc, HW⟩ Hk
  icases (slots_cut d B hB) $$ HB with ⟨H0, H1⟩
  iapply wp_wand_r
  isplitl [Ho H0 H1 Hc HW]
  · iapply (wp_body 𝒱 d bd A B S G hw hC)
    unfold around
    icases Hc with ⟨C0, C1, C2, C3, C4⟩
    isplitl [Ho]; · iexact Ho
    isplitl [H0]; · iexact H0
    isplitl [H1]; · iexact H1
    isplitl [C0]; · iexact C0
    isplitl [C1]; · iexact C1
    isplitl [C2]; · iexact C2
    isplitl [C3]; · iexact C3
    isplitl [C4]; · iexact C4
    iexact HW
  · iintro %_
    unfold around outG
    iintro ⟨⟨%g', Ho, %hg⟩, H0, H1, C0, C1, C2, C3, C4, HW⟩
    iapply Hk $$ %g' [] Ho [H0 H1] [C0 C1 C2 C3 C4] HW
    · ipureintro; exact hg
    · iapply (slots_glue d B hB)
      isplitl [H0]; · iexact H0
      iexact H1
    · isplitl [C0]; · iexact C0
      isplitl [C1]; · iexact C1
      isplitl [C2]; · iexact C2
      isplitl [C3]; · iexact C3
      iexact C4

end Cert.Recur
-- ==== Proof.BodyIdeal.lean ====
/-
  The kernel of the program with named constants, as printed, is the structured program.
-/
module

public import proofs.«01_k».proof.Proof.Program
public import proofs.«01_k».proof.Proof.Gen.KernelIdeal.Skeleton

@[expose] public section

noncomputable section

namespace Cert.KernelIdeal.Value

open Idealize.ShloMosaic Idealize.SL.Sem Cert.KernelIdeal Cert.KernelIdeal.Gen

variable {F : FTy → Type} [FloatOps F] [Named F]

/-- The rows of coefficients, by doubling. -/
def coef : ℕ → FVec F S1x1024 .f32
  | 0 => k0_pay4 k0_pay1
  | 1 => k0_pay5 k0_pay1
  | 2 => k0_pay6 k0_pay1
  | 3 => k0_pay7 k0_pay1
  | 4 => k0_pay8 k0_pay1
  | 5 => k0_pay9 k0_pay1
  | _ => k0_pay10 k0_pay1

set_option maxRecDepth 65536 in
/-- The printed kernel is the structured program. -/
theorem kernel_eq (arg0 : Memref sig .tc .hbm S4096x1024 .f32) (h0 : arg0.IsWhole) (arg1 : Memref sig .tc .vmem S2x1024x1024 .f32) (h1 : arg1.IsWhole)
    (arg2 : DmaSems sig S5x4) :
    cc0__gen_all (F := F) arg0 h0 arg1 h1 arg2 = Cert.Recur.body arg0 arg1 arg2 (k0_pay11 k0_pay1 k0_pay2 1#32) coef := by
  rw [cc0__gen_all_eq_skeleton]
  rfl

end Cert.KernelIdeal.Value
-- ==== Proof.LaunchIdeal.lean ====
/-
  The program with named constants, launched: it terminates on every execution, every row of its result is acceptable,
  the arguments are as they were and every semaphore is at zero.
-/
module

public import proofs.«01_k».proof.Proof.Whole
public import proofs.«01_k».proof.Proof.BodyIdeal
public import proofs.«01_k».proof.Proof.Gen.KernelIdeal.Launch
public import proofs.«01_k».proof.Proof.Gen.KernelIdeal.Points
public import Idealize.ShloMosaic.Lib.Pipeline.KitQuiescent
public import Idealize.ShloMosaic.Lib.Tactic

@[expose] public section

noncomputable section

namespace Cert.KernelIdeal.Value

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Recur (GoodOut Rows Closed osem)

variable {F : FTy → Type} [FloatOps F] [Named F]

/-- The pipeline's resources beside the counters of the kernel's own copies. -/
abbrev UU (nD : ℕ) (τ : Topo) : Type := UR sig nD τ × Counters
local notation "𝕄" => MT nD τ sig Unit (Elt F) ℕ (UU nD τ) ℕ
/-- Where the launch's resources live among all resources. -/
abbrev EP : Emb (UR sig nD τ) (MT nD τ sig Unit (Elt F) ℕ (UU nD τ) ℕ) := embL

variable (G : ℕ → Fin 1024 → F .f32 → Prop) (m : (ℓ : Loc nD τ sig) → Buf (Elt F) ℓ) (ρ : Dev nD → PrngReg)

/-- The result, the two-slot buffer and the semaphores. -/
abbrev outM : Memref sig .tc .hbm S4096x1024 .f32 := Memref.whole main_v0
/-- The buffer of two slots. -/
abbrev bufM : Memref sig .tc .vmem S2x1024x1024 .f32 := Memref.whole cc0_scratch0

/-- The kernel's own semaphores are distinct from the launch's. -/
theorem ownSemFacts : Pipeline.OwnSemFacts cfg0.spec (osem cc0_scratch1) := by decide

/-- What stands in the result around the one point: the launch's contents before, acceptable rows after. -/
def resultAt (c : Dev nD) (after : Prop) : sProp 𝕄 :=
  iprop(∃ g : Buf (Elt F) ((c : Thread nD τ).loc main_v0), ⌜after → GoodOut outM G 0 4096 g⌝ ∗ ((c : Thread nD τ).loc main_v0) ↦{fullShare} g)

/-- The core's scratch buffer whole. -/
def scratch (c : Dev nD) : sProp 𝕄 := iprop(∃ f : Buf (Elt F) ((c : Thread nD τ).loc cc0_scratch0), ((c : Thread nD τ).loc cc0_scratch0) ↦{fullShare} f)

/-- The pipeline's proof data: no window; the result, the buffer and the semaphores pass through the body. -/
def dats (_ : Fin 1) (c : Dev nD) : Dat τ (Elt F) Unit ℕ (UU nD τ) ℕ cfg0 c where
  A w := w.elim0
  after w _ := w.elim0
  Φ t := iprop(resultAt G c (t ≠ 0) ∗ scratch c ∗ Pipeline.ownSems0 (osem cc0_scratch1) c)
  q _ := fullShare
  owed _ := 0

/-- The body table's entry at the one point is the printed kernel. -/
theorem prog_eq (t : Fin cfg0.N) : (defs₀ (F := F)) .tc cfg0.body (cfg0.bodyArgs t (cfg0.slots t))
    = Cert.Recur.body outM bufM cc0_scratch1 (k0_pay11 k0_pay1 k0_pay2 1#32) coef :=
  Eq.trans (b := bodyAt0 t) rfl (kernel_eq _ _ _ _ _)

set_option backward.isDefEq.respectTransparency.types false in
theorem body_obligation (hw : Rows G 0 16 (k0_pay11 (F := F) k0_pay1 k0_pay2 1#32)) (hC : ∀ i < 7, Closed G (8 * 2 ^ i) (coef (F := F) i)) (c : Dev nD) :
    BodyObligation (dats G 0 c) (defs₀ (F := F)) Variants.none () Set.univ := fun t => by
  have hl : t.succ ≠ 0 := Fin.succ_ne_zero t
  rw [show (dats G 0 c).Φ t.castSucc = iprop(resultAt G c (t.castSucc ≠ 0) ∗ scratch c ∗ Pipeline.ownSems0 (osem cc0_scratch1) c) from rfl,
    show (dats G 0 c).Φ t.succ = iprop(resultAt G c (t.succ ≠ 0) ∗ scratch c ∗ Pipeline.ownSems0 (osem cc0_scratch1) c) from rfl]
  unfold Dat.owesAt Pipeline.owesWithin
  rw [show (dats G 0 c).owed t.castSucc = 0 from rfl, show (dats G 0 c).owed t.succ = 0 from rfl]
  have e0 : ∀ P : Fin cfg0.W → sProp 𝕄, bigSep Finset.univ P = BI.emp := fun P => by
    rw [show (Finset.univ : Finset (Fin cfg0.W)) = ∅ from rfl, bigSep_empty]
  rw [e0, e0]
  unfold resultAt scratch
  iintro ⟨⟨⟨%g, -, Ho⟩, HB, Hc⟩, ⟨%W, -, HW⟩, -⟩
  sl_rw [prog_eq t]
  iapply (Cert.Recur.wp_whole Variants.none c _ outM bufM cc0_scratch1 G (View.set_whole _) (View.set_whole _) hw hC) $$ [Ho HB Hc HW]
  · isplitl [Ho]; · iexact Ho
    isplitl [HB]; · iexact HB
    isplitl [Hc]; · iexact Hc
    iexists W; iexact HW
  iintro %g' %hg Ho HB Hc ⟨%W', HW⟩
  isplitl [Ho HB Hc]
  · isplitl [Ho]
    · iexists g'
      isplitr; · ipureintro; exact fun _ => hg
      iexact Ho
    isplitl [HB]; · iexact HB
    iexact Hc
  isplitl [HW]
  · iexists W'; isplitr; · ipureintro; exact fun _ _ => Or.inl trivial
    iexact HW
  iempintro

/-! ## The run -/

/-- The resources at the start. -/
def u₀ : UU nD τ := (initOf (Pipeline.cells cfgs cellOf_inj) (Pipeline.launchToks cfgs cellOf_inj), 1)

/-- The arguments, untouched by the body. -/
def argsP (c : Dev nD) : sProp 𝕄 :=
  iprop((((c : Thread nD τ).loc main_arg0) ↦{fullShare} m ((c : Thread nD τ).loc main_arg0))
    ∗ ((c : Thread nD τ).loc main_arg1) ↦{fullShare} m ((c : Thread nD τ).loc main_arg1))

/-- What a final memory has on a core. -/
def QY (c : Dev nD) (s : MemSt nD τ sig (Elt F)) : Prop :=
  GoodOut outM G 0 4096 (s.mem ((c : Thread nD τ).loc main_v0))
    ∧ s.mem ((c : Thread nD τ).loc main_arg0) = m ((c : Thread nD τ).loc main_arg0)
    ∧ s.mem ((c : Thread nD τ).loc main_arg1) = m ((c : Thread nD τ).loc main_arg1)

set_option backward.isDefEq.respectTransparency.types false in
/-- From any memory with zero counters, if the seed is acceptable and the acceptable values are closed under the
    recurrences: every fair execution terminates, and every final state has acceptable rows throughout the result, the
    arguments unchanged and every counter at zero. -/
theorem run_main (hw : Rows G 0 16 (k0_pay11 (F := F) k0_pay1 k0_pay2 1#32)) (hC : ∀ i < 7, Closed G (8 * 2 ^ i) (coef (F := F) i)) :
    θ_run defs (onTc (τ := τ) (main (F := F))) ⟨m, fun _ => 0, ρ⟩ (fun r => (∀ c : Dev nD, QY G m c r.2) ∧ r.2.sem = fun _ => 0) :=
  Pipeline.θ_run_region_kit_quiescent cfgs (dats G) () (0 : Fin 1) launch0 ownSemFacts EP defs₀ Variants.none m ρ main
    (hbody := fun c => (body_obligation G hw hC c).loose) (hshare := fun c => (dats G 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := fun c => iprop(resultAt G c False ∗ Pipeline.ownSems0 (osem cc0_scratch1) c)) (Y := fun c => resultAt G c True) (Z := argsP m)
    (hX := fun c => by
      rw [unscopedRest0_eq]
      unfold argsP resultAt
      iintro ⟨⟨H0, H1, Ho⟩, HS, -, -, -⟩; imodintro
      isplitl [Ho HS]
      · isplitl [Ho]
        · iexists m ((c : Thread nD τ).loc main_v0); isplitr; · ipureintro; exact fun h => h.elim
          iexact Ho
        iexact HS
      isplitl [H0]; · iexact H0
      iexact H1)
    (hin := fun c => by
      rw [scopedRest0_eq, show (dats G 0 c).Φ 0 = iprop(resultAt G c ((0 : Fin (cfg0.N + 1)) ≠ 0) ∗ scratch c ∗ Pipeline.ownSems0 (osem cc0_scratch1) c) from rfl]
      unfold resultAt scratch
      iintro ⟨⟨⟨%g, -, Ho⟩, HS⟩, HB⟩
      isplitl [Ho]
      · iexists g; isplitr; · ipureintro; exact fun h => absurd rfl h
        iexact Ho
      isplitl [HB]; · iexact HB
      iexact HS)
    (hout := fun c => by
      have hl : (Fin.last cfg0.N) ≠ 0 := fun h => absurd (congrArg Fin.val h) (by decide)
      rw [scopedRest0_eq, show (dats G 0 c).Φ (Fin.last cfg0.N)
        = iprop(resultAt G c ((Fin.last cfg0.N) ≠ 0) ∗ scratch c ∗ Pipeline.ownSems0 (osem cc0_scratch1) c) from rfl]
      unfold resultAt scratch
      iintro ⟨⟨%g, %hg, Ho⟩, HB, HS⟩
      isplitl [Ho]
      · iexists g; isplitr; · ipureintro; exact fun _ => hg hl
        iexact Ho
      isplitl [HS]; · iexact HS
      iexact HB)
    (QY := QY G m)
    (hY := fun c s' => by
      unfold argsP resultAt
      iintro ⟨⟨%g, %hg, Ho⟩, ⟨H0, H1⟩, HSI⟩
      icombine HSI Ho gives %ho
      icombine HSI H0 gives %h0
      icombine HSI H1 gives %h1
      imodintro
      isplitr
      · ipureintro
        refine ⟨?_, Buf.eq_of_forall_mem_univ h0, Buf.eq_of_forall_mem_univ h1⟩
        rw [Buf.eq_of_forall_mem_univ ho]; exact hg trivial
      iexact HSI)
    (hQ := fun _ hh hz => ⟨fun c => (hh c).2, hz⟩)

end Cert.KernelIdeal.Value
-- ==== Proof.Wave.lean ====
/- The sinusoidal table as a function of real numbers, with no program in sight: its angular speeds, its entries, the
   three-term recurrence that the entries of one column satisfy, and the same entries written with a power of 10000. -/
module

public import Mathlib.Analysis.SpecialFunctions.Trigonometric.Basic
public import Mathlib.Analysis.SpecialFunctions.Pow.Real

@[expose] public section

noncomputable section

namespace Cert.Wave

/-- The angular speed of column `j`: columns come in pairs, and pair `i` turns `10000^(-i/512)` radians per row. -/
def speed (j : ℕ) : ℝ := Real.exp (((j / 2 : ℕ) : ℝ) * (-1 / 512 * Real.log 10000))

/-- The phase of column `j`: a quarter turn in the odd columns, which hold cosines. -/
def phase (j : ℕ) : ℝ := if j % 2 = 1 then 1 / 2 * Real.pi else 0

/-- The entry of the table in row `p` and column `j`. -/
def entry (p j : ℕ) : ℝ := Real.sin ((p : ℝ) * speed j + phase j)

/-- The factor that carries column `j` of the table forward by `d` rows. -/
def factor (d j : ℕ) : ℝ := 2 * Real.sin ((d : ℝ) * speed j + 1 / 2 * Real.pi)

/-- The sum and the difference of two angles have sines that add up to twice the product of a sine and a cosine. -/
theorem sin_step (x y : ℝ) : 2 * Real.cos y * Real.sin x - Real.sin (x - y) = Real.sin (x + y) := by
  rw [Real.sin_sub, Real.sin_add]
  ring

/-- Three entries of one column at equal spacing `d`: the last is the factor times the middle one, less the first. -/
theorem entry_step (p d j : ℕ) : factor d j * entry (p + d) j - entry p j = entry (p + 2 * d) j := by
  unfold factor entry
  have quarter : Real.sin ((d : ℝ) * speed j + 1 / 2 * Real.pi) = Real.cos ((d : ℝ) * speed j) := by
    rw [show (1 : ℝ) / 2 * Real.pi = Real.pi / 2 by ring, Real.sin_add_pi_div_two]
  have before : (p : ℝ) * speed j + phase j = (((p + d : ℕ) : ℝ) * speed j + phase j) - (d : ℝ) * speed j := by
    push_cast; ring
  have after : ((p + 2 * d : ℕ) : ℝ) * speed j + phase j = (((p + d : ℕ) : ℝ) * speed j + phase j) + (d : ℝ) * speed j := by
    push_cast; ring
  rw [quarter, before, after]
  exact sin_step _ _

/-- The angle of row `p` in pair `i`, as the table's definition writes it. -/
def angle (p i : ℕ) : ℝ := (p : ℝ) * (1 / Real.rpow 10000 ((0 + 2 * (i : ℝ)) * (1 / 1024)))

/-- Dividing by the power of 10000 is multiplying by the pair's angular speed. -/
theorem angle_eq (p j : ℕ) : angle p (j / 2) = (p : ℝ) * speed j := by
  unfold angle speed
  have e : Real.rpow 10000 ((0 + 2 * ((j / 2 : ℕ) : ℝ)) * (1 / 1024))
      = Real.exp (Real.log 10000 * ((0 + 2 * ((j / 2 : ℕ) : ℝ)) * (1 / 1024))) :=
    Real.rpow_def_of_pos (by norm_num) _
  rw [e, one_div (Real.exp _), ← Real.exp_neg]
  congr 2
  ring

/-- The even columns hold the sines of the angles. -/
theorem entry_even {p j : ℕ} (h : j % 2 = 0) : Real.sin (angle p (j / 2)) = entry p j := by
  unfold entry phase
  rw [if_neg (by omega), add_zero, angle_eq]

/-- The odd columns hold the cosines of the angles. -/
theorem entry_odd {p j : ℕ} (h : j % 2 = 1) : Real.cos (angle p (j / 2)) = entry p j := by
  unfold entry phase
  rw [if_pos h, show (1 : ℝ) / 2 * Real.pi = Real.pi / 2 by ring, Real.sin_add_pi_div_two, angle_eq]

end Cert.Wave

end
-- ==== Proof.Consts.lean ====
/- The float constants of the programs, as the extended reals that their patterns denote over the reals. -/
module

public import Idealize.ShloMosaic.PureOps.Ideal

@[expose] public section

noncomputable section

namespace Cert.Consts

open Idealize.ShloMosaic

/-- The pattern of `2.0` denotes two. -/
theorem two_f32 : Ideal.ofBits .f32 0x40000000#32 = ((2 : ℝ) : EReal) := by
  simp [Ideal.ofBits, Ideal.ieee, -EReal.coe_mul]; norm_num

/-- The pattern of `0.0` denotes zero. -/
theorem zero_f32 : Ideal.ofBits .f32 0x00000000#32 = ((0 : ℝ) : EReal) := by
  simp [Ideal.ofBits, Ideal.ieee]

/-- The pattern of `1024.0` denotes one thousand and twenty-four. -/
theorem k_f32 : Ideal.ofBits .f32 0x44800000#32 = ((1024 : ℝ) : EReal) := by
  simp [Ideal.ofBits, Ideal.ieee, -EReal.coe_mul]; norm_num

/-- The pattern of `10000.0` denotes ten thousand. -/
theorem base_f32 : Ideal.ofBits .f32 0x461C4000#32 = ((10000 : ℝ) : EReal) := by
  simp [Ideal.ofBits, Ideal.ieee, -EReal.coe_mul]; norm_num

end Cert.Consts

end
-- ==== Proof.Values.lean ====
/- What the kernel's first values are over the real numbers: its angular speeds, its phases, the factors of its recurrences
   and the sixteen rows it starts from. The launch theorem asks for two facts about them, which close the module. -/
module

public import proofs.«01_k».proof.Proof.LaunchIdeal
public import proofs.«01_k».proof.Proof.Wave
public import proofs.«01_k».proof.Proof.Consts
public import Idealize.ShloMosaic.Lib.ValueIdx
public import Idealize.ShloMosaic.PureOps.IdealRules

@[expose] public section

noncomputable section

namespace Cert.KernelIdeal.Value

open Idealize.ShloMosaic Idealize.ShloMosaic.ValueIdx Idealize.SL.Sem Cert.KernelIdeal Cert.KernelIdeal.Gen Cert.Recur Cert.Wave

/-! ## Words -/

/-- Half of a word, as the kernel rounds it toward minus infinity: the quotient toward zero, less one where the signs differ
    and the remainder is not zero. -/
def half (b : BitVec 32) : BitVec 32 :=
  let q := IntOp.divsi .vector b 2#32
  let sgn := (IntOp.cmpi .sgt b 0#32).setWidth 32 - (IntOp.cmpi .slt b 0#32).setWidth 32
  let away := IntOp.cmpi .ne sgn 1#32 &&& IntOp.cmpi .ne (IntOp.remsi .vector b 2#32) 0#32
  Scalar.select away (q - 1#32) q

/-- The parity of a word, as the kernel takes it: the remainder, plus two where it is negative. -/
def parity (b : BitVec 32) : BitVec 32 :=
  let r := IntOp.remsi .vector b 2#32
  let neg := (IntOp.cmpi .slt r 0#32 ^^^ 0#1) &&& IntOp.cmpi .ne r 0#32
  Scalar.select neg (r + 2#32) r

/-- On the column numbers, half a word is half the number. -/
theorem half_eq : ∀ j : Fin 1024, half (BitVec.ofNat 32 j.val) = BitVec.ofNat 32 (j.val / 2) := by decide +kernel

/-- On the column numbers, the parity of a word is the number's. -/
theorem parity_eq : ∀ j : Fin 1024, IntOp.cmpi .eq (parity (BitVec.ofNat 32 j.val)) 1#32 = BitVec.ofBool (decide (j.val % 2 = 1)) := by
  decide +kernel

/-- A small number read back from its word. -/
theorem toInt_word {n : ℕ} (h : n < 2 ^ 31) : (BitVec.ofNat 32 n).toInt = (n : ℤ) := by
  rw [BitVec.toInt_eq_toNat_of_lt] <;> rw [BitVec.toNat_ofNat] <;> omega

/-- The word of a small number, taken to the reals, is the number. -/
theorem real_word {n : ℕ} (h : n < 2 ^ 31) :
    FloatOps.sitofp (F := Ideal) .f32 (BitVec.ofNat 32 n) = (((n : ℕ) : ℝ) : EReal) := by
  show (((BitVec.ofNat 32 n).toInt : ℝ) : EReal) = _
  rw [toInt_word h]; rfl

/-! ## Named constants -/

/-- The named rate is the real it is named for. -/
theorem neg_rate_eq : Named.named (F := Ideal) κ "neg_rate" (φ := .f32) 0xBC935D8E#32 = (((-1 / 512) * (Real.log 10000) : ℝ) : EReal) :=
  IdealRules.named_const.ideal_named_scalar _ _ _ _ rfl

/-- The named quarter turn is the real it is named for. -/
theorem half_pi_eq : Named.named (F := Ideal) κ "half_pi" (φ := .f32) 0x3FC90FDB#32 = (((1 / 2) * Real.pi : ℝ) : EReal) :=
  IdealRules.named_const.ideal_named_scalar _ _ _ _ rfl

/-! ## Speeds, phases, factors, first rows -/

/-- The kernel's row of angular speeds. -/
theorem speed_apply (j : Fin 1024) : k0_pay1 (F := Ideal) (ix2 0 j) = ((speed j.val : ℝ) : EReal) := by
  have e : k0_pay1 (F := Ideal) (ix2 0 j)
      = Ideal.exp (FloatOps.sitofp (F := Ideal) .f32 (half (BitVec.ofNat 32 (0 * 1024 + j.val)))
          * Named.named (F := Ideal) κ "neg_rate" (φ := .f32) 0xBC935D8E#32) := rfl
  rw [e, Nat.zero_mul, Nat.zero_add, half_eq, real_word (by omega), neg_rate_eq, ← EReal.coe_mul, Ideal.exp_coe]
  rfl

/-- The distances of the recurrences, as the kernel computes them: eight shifted left, at most 512. -/
theorem shift_eq : ∀ r : Fin 7, IntOp.minsi (IntOp.shli .vector 8#32 (BitVec.ofNat 32 r.val)) 512#32 = BitVec.ofNat 32 (8 * 2 ^ r.val) := by
  decide

/-- The kernel's block of factors: row `r` serves the distance `8 · 2^r`. -/
theorem factor_apply (r : Fin 7) (j : Fin 1024) :
    k0_pay3 (F := Ideal) k0_pay1 (ix2 (r.castLE (by decide) : Fin 8) j) = ((factor (8 * 2 ^ r.val) j.val : ℝ) : EReal) := by
  have e : k0_pay3 (F := Ideal) k0_pay1 (ix2 (r.castLE (by decide) : Fin 8) j)
      = Ideal.ofBits .f32 0x40000000#32
        * Ideal.sin (FloatOps.sitofp (F := Ideal) .f32
            (IntOp.minsi (IntOp.shli .vector 8#32 (BitVec.ofNat 32 (0 * 8 + r.val))) 512#32)
            * broadcastTo (SRows 8) (k0_pay1 (F := Ideal)) (bcasts 8) (ix2 (r.castLE (by decide) : Fin 8) j)
          + Named.named (F := Ideal) κ "half_pi" (φ := .f32) 0x3FC90FDB#32) := rfl
  have small : 8 * 2 ^ r.val < 2 ^ 31 := by
    have := Nat.pow_le_pow_right (n := 2) (by norm_num) (show r.val ≤ 6 by omega)
    omega
  rw [e, bcast_apply, Nat.zero_mul, Nat.zero_add, shift_eq, real_word small, half_pi_eq, Cert.Consts.two_f32]
  show _ * Ideal.sin (_ * k0_pay1 (F := Ideal) (ix2 0 j) + _) = _
  rw [speed_apply, ← EReal.coe_mul, ← EReal.coe_add, Ideal.sin_coe, ← EReal.coe_mul]
  rfl

/-- A row of the block of factors, cut out. -/
theorem row_apply {α : Type} (v : S8x1024.Idx → α) (r : Fin 8) (h : S8x1024.Slices ![r.val, 0] S1x1024) (j : Fin 1024) :
    extractStridedSlice S1x1024 ![r.val, 0] v h (ix2 0 j) = v (ix2 r j) := by
  refine congrArg v (funext fun a => Fin.ext ?_)
  match a with
  | ⟨0, _⟩ => rfl
  | ⟨1, _⟩ => exact Nat.zero_add _

/-- The factors the kernel takes for the distance `8 · 2^i`. -/
theorem coef_apply (i : ℕ) (hi : i < 7) (j : Fin 1024) :
    coef (F := Ideal) i (ix2 0 j) = ((factor (8 * 2 ^ i) j.val : ℝ) : EReal) := by
  refine Eq.trans ?_ (factor_apply ⟨i, hi⟩ j)
  match i, hi with
  | 0, _ => exact row_apply (k0_pay3 (F := Ideal) k0_pay1) 0 slices_S8x1024_o0_0_S1x1024 j
  | 1, _ => exact row_apply (k0_pay3 (F := Ideal) k0_pay1) 1 slices_S8x1024_o1_0_S1x1024 j
  | 2, _ => exact row_apply (k0_pay3 (F := Ideal) k0_pay1) 2 slices_S8x1024_o2_0_S1x1024 j
  | 3, _ => exact row_apply (k0_pay3 (F := Ideal) k0_pay1) 3 slices_S8x1024_o3_0_S1x1024 j
  | 4, _ => exact row_apply (k0_pay3 (F := Ideal) k0_pay1) 4 slices_S8x1024_o4_0_S1x1024 j
  | 5, _ => exact row_apply (k0_pay3 (F := Ideal) k0_pay1) 5 slices_S8x1024_o5_0_S1x1024 j
  | 6, _ => exact row_apply (k0_pay3 (F := Ideal) k0_pay1) 6 slices_S8x1024_o6_0_S1x1024 j

/-- The phase the kernel selects in column `j`. -/
theorem phase_apply (j : Fin 1024) :
    Scalar.select (IntOp.cmpi .eq (parity (BitVec.ofNat 32 j.val)) 1#32)
      (Named.named (F := Ideal) κ "half_pi" (φ := .f32) 0x3FC90FDB#32) (Ideal.ofBits .f32 0x00000000#32)
      = ((phase j.val : ℝ) : EReal) := by
  rw [parity_eq, half_pi_eq, Cert.Consts.zero_f32]
  unfold phase Scalar.select
  by_cases h : j.val % 2 = 1
  · rw [if_pos h, decide_eq_true h]; rfl
  · rw [if_neg h, decide_eq_false h]; rfl

/-- The sixteen rows the kernel starts from are the first sixteen rows of the table. -/
theorem first_apply (z : S1x16x1024.Idx) :
    k0_pay11 (F := Ideal) k0_pay1 k0_pay2 1#32 z = ((entry (z 1).val (z 2).val : ℝ) : EReal) := by
  obtain ⟨p, hp⟩ : ∃ p : Fin 16, z 1 = p := ⟨_, rfl⟩
  obtain ⟨j, hj⟩ : ∃ j : Fin 1024, z 2 = j := ⟨_, rfl⟩
  let ph : FVec Ideal S1x1024 .f32 := select (cmpi .eq k0_pay2 (broadcast S1x1024 1#32))
    (broadcast S1x1024 (Named.named (F := Ideal) κ "half_pi" (φ := .f32) 0x3FC90FDB#32))
    (broadcast S1x1024 (Scalar.ofBits .f32 0x00000000#32))
  let v : FVec Ideal (SRows 16) .f32 := fun i => Ideal.sin (FloatOps.sitofp (F := Ideal) .f32 (BitVec.ofNat 32 (0 * 16 + (i 0).val))
    * broadcastTo (SRows 16) (k0_pay1 (F := Ideal)) (bcasts 16) i + broadcastTo (SRows 16) ph (bcasts 16) i)
  have e : k0_pay11 (F := Ideal) k0_pay1 k0_pay2 1#32 z = shapeCast (SSlab 16) v (casts_up 16) z := rfl
  have eph : ph (ix2 0 j) = Scalar.select (IntOp.cmpi .eq (parity (BitVec.ofNat 32 (0 * 1024 + j.val))) 1#32)
      (Named.named (F := Ideal) κ "half_pi" (φ := .f32) 0x3FC90FDB#32) (Ideal.ofBits .f32 0x00000000#32) := rfl
  rw [Nat.zero_mul, Nat.zero_add, phase_apply] at eph
  rw [e, up_apply, hp, hj]
  show Ideal.sin (FloatOps.sitofp (F := Ideal) .f32 (BitVec.ofNat 32 (0 * 16 + p.val))
    * broadcastTo (SRows 16) (k0_pay1 (F := Ideal)) (bcasts 16) (ix2 p j) + broadcastTo (SRows 16) ph (bcasts 16) (ix2 p j)) = _
  rw [bcast_apply, bcast_apply, Nat.zero_mul, Nat.zero_add, real_word (by omega)]
  show Ideal.sin (_ * k0_pay1 (F := Ideal) (ix2 0 j) + ph (ix2 0 j)) = _
  rw [speed_apply, eph, ← EReal.coe_mul, ← EReal.coe_add, Ideal.sin_coe]
  rfl

/-! ## What the launch theorem asks for -/

/-- A value is acceptable in row `p` and column `j` when it is the table's entry there. -/
def IsEntry (p : ℕ) (j : Fin 1024) (v : Ideal .f32) : Prop := v = ((entry p j.val : ℝ) : EReal)

/-- The rows the kernel starts from are acceptable. -/
theorem first_rows : Rows IsEntry 0 16 (k0_pay11 (F := Ideal) k0_pay1 k0_pay2 1#32) := fun z => by
  unfold IsEntry
  rw [Nat.zero_add]
  exact first_apply z

/-- The recurrence at each of the kernel's distances carries entries to entries. -/
theorem closed (i : ℕ) (hi : i < 7) : Closed IsEntry (8 * 2 ^ i) (coef (F := Ideal) i) := by
  intro p j a b ha hb
  unfold IsEntry at *
  rw [coef_apply i hi, ha, hb]
  show (_ : EReal) * _ - _ = _
  rw [← EReal.coe_mul, ← EReal.coe_sub, entry_step]

/-- The kernel ends with the table in its result, its arguments as they were and its semaphores at rest. -/
theorem run (m : (ℓ : Loc nD τ sig) → Buf (Elt Ideal) ℓ) (ρ : Dev nD → PrngReg) :
    θ_run defs (onTc (τ := τ) (main (F := Ideal))) ⟨m, fun _ => 0, ρ⟩
      (fun r => (∀ c : Dev nD, QY IsEntry m c r.2) ∧ r.2.sem = fun _ => 0) :=
  run_main IsEntry m ρ first_rows closed

end Cert.KernelIdeal.Value

end
-- ==== Proof.Encoding.lean ====
/- The table as the host computes it: the array of the reference that builds the table from its definition, and of the
   precondition on the encoding argument. Over the real numbers its elements are the entries of the table. -/
module

public import proofs.«01_k».proof.Defs
public import proofs.«01_k».proof.Proof.Wave
public import proofs.«01_k».proof.Proof.Consts
public import proofs.«01_k».proof.Proof.Gen.Pre_is_encoding
public import Idealize.ShloMosaic.Lib.ValueIdx
public import Idealize.ShloMosaic.Lib.Pipeline.Value

@[expose] public section

noncomputable section

namespace Cert.Encoding

open Idealize.ShloMosaic Idealize.ShloMosaic.ValueIdx Idealize.SL.Sem Cert.Pre_is_encoding Cert.Pre_is_encoding.Facts Cert.Wave

/-- The powers of 10000, one for each pair of columns. -/
def powers : FVec Ideal S512 .f32 :=
  Host.powf (broadcastInDim S512 ![] bcast_S_S512 (constant S_ .f32 0x461C4000#32))
    (Host.divf (addf (broadcastInDim S512 ![] bcast_S_S512 (constant S_ .f32 0x00000000#32))
        (mulf (broadcastInDim S512 ![] bcast_S_S512 (constant S_ .f32 0x40000000#32)) (sitofp .f32 (iotaInDim S512 32 0))))
      (broadcastInDim S512 ![] bcast_S_S512 (constant S_ .f32 0x44800000#32)))

/-- The angles: row numbers over powers. -/
def angles : FVec Ideal S8192x512 .f32 :=
  Host.divf (broadcastInDim S8192x512 ![0, 1] bcast_S8192x1_S8192x512_0_1
      (broadcastInDim S8192x1 ![0] bcast_S8192_S8192x1_0 (sitofp .f32 (iotaInDim S8192 32 0))))
    (broadcastInDim S8192x512 ![0, 1] bcast_S1x512_S8192x512_0_1 (broadcastInDim S1x512 ![1] bcast_S512_S1x512_1 powers))

/-- The sines and cosines of the angles, side by side. -/
def pairs : FVec Ideal S8192x512x2 .f32 :=
  concatenate S8192x512x2 2
    [⟨S8192x512x1, broadcastInDim S8192x512x1 ![0, 1] bcast_S8192x512_S8192x512x1_0_1 (Host.sin angles)⟩,
      ⟨S8192x512x1, broadcastInDim S8192x512x1 ![0, 1] bcast_S8192x512_S8192x512x1_0_1 (Host.cos angles)⟩]
    concatenates_S8192x512x1_S8192x512x1_S8192x512x2_d2

/-- The table of 8192 rows: sines in the even columns, cosines in the odd ones. -/
def encoding : FVec Ideal S8192x1024 .f32 := shapeCast S8192x1024 pairs shapeCasts_S8192x512x2_S8192x1024

/-- The word of a small number, taken to the reals, is the number. -/
theorem real_word {n : ℕ} (h : n < 2 ^ 31) :
    FloatOps.sitofp (F := Ideal) .f32 (BitVec.ofNat 32 n) = (((n : ℕ) : ℝ) : EReal) := by
  have e : (BitVec.ofNat 32 n).toInt = (n : ℤ) := by
    rw [BitVec.toInt_eq_toNat_of_lt] <;> rw [BitVec.toNat_ofNat] <;> omega
  show (((BitVec.ofNat 32 n).toInt : ℝ) : EReal) = _
  rw [e]; rfl

/-- The power of one pair of columns. -/
theorem powers_apply (i : Fin 512) :
    powers (ix1 i) = ((Real.rpow 10000 ((0 + 2 * (i.val : ℝ)) * (1 / 1024)) : ℝ) : EReal) := by
  have e : powers (ix1 i) = Ideal.pow (Ideal.ofBits .f32 0x461C4000#32)
      (Ideal.div (Ideal.ofBits .f32 0x00000000#32 + Ideal.ofBits .f32 0x40000000#32
        * FloatOps.sitofp (F := Ideal) .f32 (BitVec.ofNat 32 i.val)) (Ideal.ofBits .f32 0x44800000#32)) := rfl
  rw [e, real_word (by omega), Cert.Consts.base_f32, Cert.Consts.zero_f32, Cert.Consts.two_f32, Cert.Consts.k_f32,
    Ideal.div_coe (by norm_num), ← EReal.coe_mul, ← EReal.coe_add, ← EReal.coe_mul, Ideal.pow_coe_coe]

/-- The angle of one row in one pair of columns. -/
theorem angles_apply (p : Fin 8192) (i : Fin 512) : angles (ix2 p i) = ((angle p.val i.val : ℝ) : EReal) := by
  have hrow : broadcastInDim S8192x512 ![0, 1] bcast_S8192x1_S8192x512_0_1
      (broadcastInDim S8192x1 ![0] bcast_S8192_S8192x1_0 (sitofp (F := Ideal) .f32 (iotaInDim S8192 32 0))) (ix2 p i)
      = FloatOps.sitofp (F := Ideal) .f32 (BitVec.ofNat 32 p.val) := by
    rw [broadcastInDim_apply _ _ _ (ix2 p i) (ix2 p 0) (fun a => by fin_cases a <;> rfl),
      broadcastInDim_apply _ _ _ (ix2 p 0) (ix1 p) (fun a => by fin_cases a; rfl)]
    rfl
  have hpow : broadcastInDim S8192x512 ![0, 1] bcast_S1x512_S8192x512_0_1
      (broadcastInDim S1x512 ![1] bcast_S512_S1x512_1 powers) (ix2 p i) = powers (ix1 i) := by
    rw [broadcastInDim_apply _ _ _ (ix2 p i) (ix2 0 i) (fun a => by fin_cases a <;> rfl),
      broadcastInDim_apply _ _ _ (ix2 0 i) (ix1 i) (fun a => by fin_cases a; rfl)]
  have pos : Real.rpow 10000 ((0 + 2 * (i.val : ℝ)) * (1 / 1024)) ≠ 0 := (Real.rpow_pos_of_pos (by norm_num) _).ne'
  refine (congrArg₂ Ideal.div hrow hpow).trans ?_
  rw [powers_apply, real_word (by omega), Ideal.div_coe pos, ← EReal.coe_mul]
  rfl

/-- A new last axis of extent one is read past. -/
theorem last_apply (x : FVec Ideal S8192x512 .f32) (p : Fin 8192) (i : Fin 512) :
    broadcastInDim S8192x512x1 ![0, 1] bcast_S8192x512_S8192x512x1_0_1 x (ix3 p i (0 : Fin 1)) = x (ix2 p i) :=
  broadcastInDim_apply _ _ _ _ _ (fun a => by fin_cases a <;> rfl)

/-- The element of the host's table in row `p` and column `j` is the entry there. -/
theorem encoding_apply (p : Fin 8192) (j : Fin 1024) : encoding (ix2 p j) = ((entry p.val j.val : ℝ) : EReal) := by
  let i : Fin 512 := ⟨j.val / 2, by omega⟩
  let b : Fin 2 := ⟨j.val % 2, by omega⟩
  have e : encoding (ix2 p j) = pairs (ix3 p i b) := by
    refine shapeCast_apply _ _ _ _ ?_
    rw [Shape.rowMajor_val_three, Shape.rowMajor_val_two]
    show (p.val * 512 + j.val / 2) * 2 + j.val % 2 = p.val * 1024 + j.val
    omega
  rw [e, pairs]
  rcases Nat.mod_two_eq_zero_or_one j.val with h | h
  · rw [← entry_even h, ← Ideal.sin_coe]
    refine (concatenate_pair_apply_left (t := S8192x512x2) (s₁ := S8192x512x1) (s₂ := S8192x512x1) 2 _ _ _ (ix3 p i b) rfl (ix3 p i (0 : Fin 1)) (fun a => ?_)).trans ?_
    · match a with
      | ⟨0, _⟩ => rfl
      | ⟨1, _⟩ => rfl
      | ⟨2, _⟩ => exact h.symm
    · rw [last_apply]
      exact congrArg Ideal.sin (angles_apply p i)
  · rw [← entry_odd h, ← Ideal.cos_coe]
    refine (concatenate_pair_apply_right (t := S8192x512x2) (s₁ := S8192x512x1) (s₂ := S8192x512x1) 2 _ _ _ (ix3 p i b) rfl rfl (ix3 p i (0 : Fin 1)) (fun a ha => ?_) (show 0 + 1 = j.val % 2 from h.symm)).trans ?_
    · match a with
      | ⟨0, _⟩ => rfl
      | ⟨1, _⟩ => rfl
      | ⟨2, _⟩ => exact absurd rfl ha
    · rw [last_apply]
      exact congrArg Ideal.cos (angles_apply p i)

/-- The first 4096 rows of the host's table. -/
theorem head_apply (h : S8192x1024.Slices ![0, 0] ⟨2, ![4096, 1024]⟩) (x : (⟨2, ![4096, 1024]⟩ : Shape).Idx) :
    extractStridedSlice ⟨2, ![4096, 1024]⟩ ![0, 0] encoding h x = ((entry (x 0).val (x 1).val : ℝ) : EReal) := by
  obtain ⟨p, hp⟩ : ∃ p : Fin 4096, x 0 = p := ⟨_, rfl⟩
  obtain ⟨j, hj⟩ : ∃ j : Fin 1024, x 1 = j := ⟨_, rfl⟩
  rw [hp, hj]
  refine Eq.trans (congrArg encoding (funext fun a => Fin.ext ?_)) (encoding_apply (p.castLE (by decide)) j)
  match a with
  | ⟨0, _⟩ => exact (Nat.zero_add _).trans (congrArg Fin.val hp)
  | ⟨1, _⟩ => exact (Nat.zero_add _).trans (congrArg Fin.val hj)

/-- An encoding argument of which the precondition holds is the host's table. -/
theorem eq_encoding (a : IVec S2x4096 32) (x : FVec Ideal S8192x1024 .f32) (h : fn (F := Ideal) a x = fun _ => 1#1) :
    x = encoding := by
  have e : fn (F := Ideal) a x = fun k => Ideal.cmp .oeq (x k) (encoding k) := rfl
  rw [e] at h
  funext k
  have hk := congrFun h k
  by_contra hne
  simp [Ideal.cmp, hne] at hk

/-- The host's table satisfies the precondition, so the precondition can be met over the reals. -/
theorem holds_encoding (a : IVec S2x4096 32) : fn (F := Ideal) a encoding = fun _ => 1#1 := by
  have e : fn (F := Ideal) a encoding = fun k => Ideal.cmp .oeq (encoding k) (encoding k) := rfl
  rw [e]
  funext k
  simp [Ideal.cmp]

end Cert.Encoding

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.TableIdeal
public import proofs.«01_k».proof.Proof.Gen.TableIdeal.Run
public import proofs.«01_k».proof.Proof.Gen.Pre_is_encoding
public import proofs.«01_k».proof.Proof.LaunchBits
public import proofs.«01_k».proof.Proof.Values
public import proofs.«01_k».proof.Proof.Encoding
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-! ## Runs -/

/-- The kernel on machine floats runs, leaves its arguments and ends at rest. -/
theorem frame_kernel : Cert.quiescent_Kernel := fun m ρ _ =>
  (θ_run Cert.Kernel.defs _ _).mono (fun _ h => ⟨fun c => (h.1 c).2, h.2⟩)
    (Cert.Kernel.Value.run_main (F := Bits) (fun _ _ _ => True) m ρ (fun _ => trivial) (fun _ _ _ _ _ _ _ _ => trivial))

/-- The kernel over the reals runs, leaves its arguments and ends at rest. -/
theorem frame_ideal : Cert.quiescent_KernelIdeal := fun m ρ _ =>
  (θ_run Cert.KernelIdeal.defs _ _).mono (fun _ h => ⟨fun c => (h.1 c).2, h.2⟩) (Cert.KernelIdeal.Value.run m ρ)

/-- The reference runs, leaves its arguments and ends at rest. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference that builds the table runs, leaves its arguments and ends at rest. -/
theorem frame_table : Cert.quiescent_TableIdeal := fun m ρ _ =>
  (θ_run Cert.TableIdeal.defs _ _).mono (fun r h => ⟨fun c => (h c).2, sem_eq_zero_of_no_sems (by decide) r.2⟩)
    (Cert.TableIdeal.Value.run (F := Ideal) m ρ)

/-! ## Constants -/

/-- The two named constants are the reals they are named for. -/
theorem preserves : Cert.preserves_Kernel_KernelIdeal :=
  ⟨IdealRules.named_const.statement Cert.KernelIdeal.κ "neg_rate" .f32 0xBC935D8E#32 (((-1 / 512) * (Real.log 10000) : ℝ) : EReal) rfl,
    IdealRules.named_const.statement Cert.KernelIdeal.κ "half_pi" .f32 0x3FC90FDB#32 (((1 / 2) * Real.pi : ℝ) : EReal) rfl⟩

/-! ## Results -/

/-- The array of 4096 rows of the table. -/
def rows : FVec Ideal ⟨2, ![4096, 1024]⟩ .f32 := fun x => ((Cert.Wave.entry (x 0).val (x 1).val : ℝ) : EReal)

/-- The kernel's result over the reals is the table. -/
theorem kernel_rows (m : (ℓ : Loc Cert.KernelIdeal.nD Cert.KernelIdeal.τ Cert.KernelIdeal.sig) → Buf (Elt Ideal) ℓ)
    (ρ : Dev Cert.KernelIdeal.nD → PrngReg) :
    θ_run Cert.KernelIdeal.defs (onTc (τ := Cert.KernelIdeal.τ) (Cert.KernelIdeal.main (F := Ideal))) ⟨m, fun _ => 0, ρ⟩
      (fun r => ∀ c : Dev Cert.KernelIdeal.nD,
        r.2.mem ((c : Thread Cert.KernelIdeal.nD Cert.KernelIdeal.τ).loc Cert.KernelIdeal.main_v0) = rows
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)) :=
  (θ_run Cert.KernelIdeal.defs _ _).mono
    (fun _ h c => ⟨funext fun x => (h.1 c).1 x (Nat.zero_le _) (x 0).isLt, (h.1 c).2⟩) (Cert.KernelIdeal.Value.run m ρ)

/-- The kernel and the reference that builds the table end with equal results, whatever the arguments. -/
theorem algebraic_table : Cert.algebraic_KernelIdeal_TableIdeal := by
  intro m ρ m' ρ' _ _
  refine ⟨fun _ => rows, kernel_rows m ρ, ?_⟩
  refine (θ_run Cert.TableIdeal.defs _ _).mono (fun _ h c => ⟨(h c).1.trans ?_, (h c).2⟩) (Cert.TableIdeal.Value.run (F := Ideal) m' ρ')
  exact funext fun x => Cert.Encoding.head_apply _ x

/-- The kernel and the reference, which reads the table from its argument, end with equal results when that argument is
    the table. -/
theorem algebraic_reference : Cert.algebraic_KernelIdeal_ReferenceIdeal_pre_is_encoding := by
  intro m ρ m' ρ' hpre hagree
  refine ⟨fun _ => rows, kernel_rows m ρ, ?_⟩
  refine (θ_run Cert.ReferenceIdeal.defs _ _).mono (fun _ h c => ⟨(h c).1.trans ?_, (h c).2⟩)
    (Cert.ReferenceIdeal.Value.run (F := Ideal) m' ρ')
  have e := (hagree c).2.trans (Cert.Encoding.eq_encoding _ _ (hpre c))
  rw [e]
  exact funext fun x => Cert.Encoding.head_apply _ x

/-- Everything the certificate claims. -/
theorem claim : Cert.Claim :=
  ⟨Cert.Kernel.Gen.facts, Cert.KernelIdeal.Gen.facts, Cert.ReferenceIdeal.Gen.facts, Cert.TableIdeal.Gen.facts,
    Cert.Pre_is_encoding.Gen.facts, frame_kernel, frame_ideal, fun m ρ _ => frame_ideal m ρ trivial, frame_reference,
    fun m ρ _ => frame_reference m ρ trivial, frame_table, preserves, algebraic_table, algebraic_reference⟩

end Cert.Proof

end
